-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 8192]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x8192 : Shape := ⟨2, ![4096, 8192]⟩
abbrev S1 : Shape := ⟨1, ![1]⟩
abbrev S4096x256 : Shape := ⟨2, ![4096, 256]⟩
abbrev S2x4096x512 : Shape := ⟨3, ![2, 4096, 512]⟩
abbrev S128x8192 : Shape := ⟨2, ![128, 8192]⟩
abbrev S2 : Shape := ⟨1, ![2]⟩
abbrev S31 : Shape := ⟨1, ![31]⟩
abbrev S32 : Shape := ⟨1, ![32]⟩
abbrev S_ : Shape := ⟨0, ![]⟩
abbrev S1x4096x512 : Shape := ⟨3, ![1, 4096, 512]⟩
abbrev S4096x512 : Shape := ⟨2, ![4096, 512]⟩
abbrev S128x512 : Shape := ⟨2, ![128, 512]⟩
abbrev S128x256 : Shape := ⟨2, ![128, 256]⟩

abbrev nBuf : Space → Nat
  | .hbm => 5
  | .vmem => 4
  | .smem => 2
  | _ => 0

abbrev bufTy : (tb : Table) → Fin (tcTables nBuf tb) → BufTy
  | .hbm, ⟨0, _⟩ => ⟨S128x4096, .fp8e4m3⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x256, .f32⟩
  | .local _ .vmem, ⟨0, _⟩ => ⟨S128x4096, .fp8e4m3⟩
  | .local _ .vmem, ⟨1, _⟩ => ⟨S4096x256, .f32⟩
  | .local _ .vmem, ⟨2, _⟩ => ⟨S2x4096x512, .f32⟩
  | .local _ .vmem, ⟨3, _⟩ => ⟨S128x8192, .f32⟩
  | .local _ .smem, ⟨0, _⟩ => ⟨S1, .f32⟩
  | .local _ .smem, ⟨1, _⟩ => ⟨S1, .f32⟩
  | _, _ => ⟨S128x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 1 → Bool
  | ⟨0, _⟩ => false
  | _ => false

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  (ofTc nBuf bufTy 1 69 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) : Fin 2 → Nat :=
  let c0_447 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32 : BitVec 32 := 256#32
  let v598 : BitVec 32 := Scalar.muli v2 c256_i32
  let v599 : Index := Scalar.indexCast v598
  ![0, v599.toNat]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v601 : BitVec 32 := Scalar.muli v2 c128_i32
  let v602 : Index := Scalar.indexCast v601
  let c0_448 : Index := 0#32
  ![v602.toNat, 0]
def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_453 : BitVec 32 := 128#32
  let v607 : BitVec 32 := Scalar.muli v2 c128_i32_453
  let c0_i32_457 : BitVec 32 := 0#32
  ![v607.toNat, 0]
def k0_off5 (d0 : Dev nD) (c1_i32_450 : BitVec 32) : Fin 2 → Nat :=
  let c0_i32_458 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v604 : BitVec 32 := Scalar.addi v2 c1_i32_450
  let c32_i32_451 : BitVec 32 := 32#32
  let v605 : BitVec 32 := Scalar.remsi v604 c32_i32_451
  let c256_i32_452 : BitVec 32 := 256#32
  let v606 : BitVec 32 := Scalar.muli v605 c256_i32_452
  ![0, v606.toNat]
def k0_dev32 (d0 : Dev nD) : Nat :=
  let c0_i32_456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_450 : BitVec 32 := 1#32
  let v604 : BitVec 32 := Scalar.addi v2 c1_i32_450
  let c32_i32_451 : BitVec 32 := 32#32
  let v605 : BitVec 32 := Scalar.remsi v604 c32_i32_451
  let c1_i32_455 : BitVec 32 := 1#32
  let v608 : BitVec 32 := Scalar.muli v605 c1_i32_455
  let v609 : BitVec 32 := Scalar.addi c0_i32_456 v608
  v609.toNat
def k0_dev33 (d0 : Dev nD) : Nat :=
  let c0_i32_465 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_459 : BitVec 32 := 2#32
  let v616 : BitVec 32 := Scalar.addi v2 c2_i32_459
  let c32_i32_460 : BitVec 32 := 32#32
  let v617 : BitVec 32 := Scalar.remsi v616 c32_i32_460
  let c1_i32_464 : BitVec 32 := 1#32
  let v620 : BitVec 32 := Scalar.muli v617 c1_i32_464
  let v621 : BitVec 32 := Scalar.addi c0_i32_465 v620
  v621.toNat
def k0_dev34 (d0 : Dev nD) : Nat :=
  let c0_i32_474 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_468 : BitVec 32 := 3#32
  let v628 : BitVec 32 := Scalar.addi v2 c3_i32_468
  let c32_i32_469 : BitVec 32 := 32#32
  let v629 : BitVec 32 := Scalar.remsi v628 c32_i32_469
  let c1_i32_473 : BitVec 32 := 1#32
  let v632 : BitVec 32 := Scalar.muli v629 c1_i32_473
  let v633 : BitVec 32 := Scalar.addi c0_i32_474 v632
  v633.toNat
def k0_dev35 (d0 : Dev nD) : Nat :=
  let c0_i32_483 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_477 : BitVec 32 := 4#32
  let v640 : BitVec 32 := Scalar.addi v2 c4_i32_477
  let c32_i32_478 : BitVec 32 := 32#32
  let v641 : BitVec 32 := Scalar.remsi v640 c32_i32_478
  let c1_i32_482 : BitVec 32 := 1#32
  let v644 : BitVec 32 := Scalar.muli v641 c1_i32_482
  let v645 : BitVec 32 := Scalar.addi c0_i32_483 v644
  v645.toNat
def k0_dev36 (d0 : Dev nD) : Nat :=
  let c0_i32_492 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_486 : BitVec 32 := 5#32
  let v652 : BitVec 32 := Scalar.addi v2 c5_i32_486
  let c32_i32_487 : BitVec 32 := 32#32
  let v653 : BitVec 32 := Scalar.remsi v652 c32_i32_487
  let c1_i32_491 : BitVec 32 := 1#32
  let v656 : BitVec 32 := Scalar.muli v653 c1_i32_491
  let v657 : BitVec 32 := Scalar.addi c0_i32_492 v656
  v657.toNat
def k0_dev37 (d0 : Dev nD) : Nat :=
  let c0_i32_501 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_495 : BitVec 32 := 6#32
  let v664 : BitVec 32 := Scalar.addi v2 c6_i32_495
  let c32_i32_496 : BitVec 32 := 32#32
  let v665 : BitVec 32 := Scalar.remsi v664 c32_i32_496
  let c1_i32_500 : BitVec 32 := 1#32
  let v668 : BitVec 32 := Scalar.muli v665 c1_i32_500
  let v669 : BitVec 32 := Scalar.addi c0_i32_501 v668
  v669.toNat
def k0_dev38 (d0 : Dev nD) : Nat :=
  let c0_i32_510 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_504 : BitVec 32 := 7#32
  let v676 : BitVec 32 := Scalar.addi v2 c7_i32_504
  let c32_i32_505 : BitVec 32 := 32#32
  let v677 : BitVec 32 := Scalar.remsi v676 c32_i32_505
  let c1_i32_509 : BitVec 32 := 1#32
  let v680 : BitVec 32 := Scalar.muli v677 c1_i32_509
  let v681 : BitVec 32 := Scalar.addi c0_i32_510 v680
  v681.toNat
def k0_dev39 (d0 : Dev nD) : Nat :=
  let c0_i32_519 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_513 : BitVec 32 := 8#32
  let v688 : BitVec 32 := Scalar.addi v2 c8_i32_513
  let c32_i32_514 : BitVec 32 := 32#32
  let v689 : BitVec 32 := Scalar.remsi v688 c32_i32_514
  let c1_i32_518 : BitVec 32 := 1#32
  let v692 : BitVec 32 := Scalar.muli v689 c1_i32_518
  let v693 : BitVec 32 := Scalar.addi c0_i32_519 v692
  v693.toNat
def k0_dev40 (d0 : Dev nD) : Nat :=
  let c0_i32_528 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_522 : BitVec 32 := 9#32
  let v700 : BitVec 32 := Scalar.addi v2 c9_i32_522
  let c32_i32_523 : BitVec 32 := 32#32
  let v701 : BitVec 32 := Scalar.remsi v700 c32_i32_523
  let c1_i32_527 : BitVec 32 := 1#32
  let v704 : BitVec 32 := Scalar.muli v701 c1_i32_527
  let v705 : BitVec 32 := Scalar.addi c0_i32_528 v704
  v705.toNat
def k0_dev41 (d0 : Dev nD) : Nat :=
  let c0_i32_537 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_531 : BitVec 32 := 10#32
  let v712 : BitVec 32 := Scalar.addi v2 c10_i32_531
  let c32_i32_532 : BitVec 32 := 32#32
  let v713 : BitVec 32 := Scalar.remsi v712 c32_i32_532
  let c1_i32_536 : BitVec 32 := 1#32
  let v716 : BitVec 32 := Scalar.muli v713 c1_i32_536
  let v717 : BitVec 32 := Scalar.addi c0_i32_537 v716
  v717.toNat
def k0_dev42 (d0 : Dev nD) : Nat :=
  let c0_i32_546 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_540 : BitVec 32 := 11#32
  let v724 : BitVec 32 := Scalar.addi v2 c11_i32_540
  let c32_i32_541 : BitVec 32 := 32#32
  let v725 : BitVec 32 := Scalar.remsi v724 c32_i32_541
  let c1_i32_545 : BitVec 32 := 1#32
  let v728 : BitVec 32 := Scalar.muli v725 c1_i32_545
  let v729 : BitVec 32 := Scalar.addi c0_i32_546 v728
  v729.toNat
def k0_dev43 (d0 : Dev nD) : Nat :=
  let c0_i32_555 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_549 : BitVec 32 := 12#32
  let v736 : BitVec 32 := Scalar.addi v2 c12_i32_549
  let c32_i32_550 : BitVec 32 := 32#32
  let v737 : BitVec 32 := Scalar.remsi v736 c32_i32_550
  let c1_i32_554 : BitVec 32 := 1#32
  let v740 : BitVec 32 := Scalar.muli v737 c1_i32_554
  let v741 : BitVec 32 := Scalar.addi c0_i32_555 v740
  v741.toNat
def k0_dev44 (d0 : Dev nD) : Nat :=
  let c0_i32_564 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_558 : BitVec 32 := 13#32
  let v748 : BitVec 32 := Scalar.addi v2 c13_i32_558
  let c32_i32_559 : BitVec 32 := 32#32
  let v749 : BitVec 32 := Scalar.remsi v748 c32_i32_559
  let c1_i32_563 : BitVec 32 := 1#32
  let v752 : BitVec 32 := Scalar.muli v749 c1_i32_563
  let v753 : BitVec 32 := Scalar.addi c0_i32_564 v752
  v753.toNat
def k0_dev45 (d0 : Dev nD) : Nat :=
  let c0_i32_573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_567 : BitVec 32 := 14#32
  let v760 : BitVec 32 := Scalar.addi v2 c14_i32_567
  let c32_i32_568 : BitVec 32 := 32#32
  let v761 : BitVec 32 := Scalar.remsi v760 c32_i32_568
  let c1_i32_572 : BitVec 32 := 1#32
  let v764 : BitVec 32 := Scalar.muli v761 c1_i32_572
  let v765 : BitVec 32 := Scalar.addi c0_i32_573 v764
  v765.toNat
def k0_dev46 (d0 : Dev nD) : Nat :=
  let c0_i32_582 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_576 : BitVec 32 := 15#32
  let v772 : BitVec 32 := Scalar.addi v2 c15_i32_576
  let c32_i32_577 : BitVec 32 := 32#32
  let v773 : BitVec 32 := Scalar.remsi v772 c32_i32_577
  let c1_i32_581 : BitVec 32 := 1#32
  let v776 : BitVec 32 := Scalar.muli v773 c1_i32_581
  let v777 : BitVec 32 := Scalar.addi c0_i32_582 v776
  v777.toNat
def k0_dev47 (d0 : Dev nD) : Nat :=
  let c0_i32_591 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_585 : BitVec 32 := 16#32
  let v784 : BitVec 32 := Scalar.addi v2 c16_i32_585
  let c32_i32_586 : BitVec 32 := 32#32
  let v785 : BitVec 32 := Scalar.remsi v784 c32_i32_586
  let c1_i32_590 : BitVec 32 := 1#32
  let v788 : BitVec 32 := Scalar.muli v785 c1_i32_590
  let v789 : BitVec 32 := Scalar.addi c0_i32_591 v788
  v789.toNat
def k0_dev48 (d0 : Dev nD) : Nat :=
  let c0_i32_600 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_594 : BitVec 32 := 17#32
  let v796 : BitVec 32 := Scalar.addi v2 c17_i32_594
  let c32_i32_595 : BitVec 32 := 32#32
  let v797 : BitVec 32 := Scalar.remsi v796 c32_i32_595
  let c1_i32_599 : BitVec 32 := 1#32
  let v800 : BitVec 32 := Scalar.muli v797 c1_i32_599
  let v801 : BitVec 32 := Scalar.addi c0_i32_600 v800
  v801.toNat
def k0_dev49 (d0 : Dev nD) : Nat :=
  let c0_i32_609 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_603 : BitVec 32 := 18#32
  let v808 : BitVec 32 := Scalar.addi v2 c18_i32_603
  let c32_i32_604 : BitVec 32 := 32#32
  let v809 : BitVec 32 := Scalar.remsi v808 c32_i32_604
  let c1_i32_608 : BitVec 32 := 1#32
  let v812 : BitVec 32 := Scalar.muli v809 c1_i32_608
  let v813 : BitVec 32 := Scalar.addi c0_i32_609 v812
  v813.toNat
def k0_dev50 (d0 : Dev nD) : Nat :=
  let c0_i32_618 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_612 : BitVec 32 := 19#32
  let v820 : BitVec 32 := Scalar.addi v2 c19_i32_612
  let c32_i32_613 : BitVec 32 := 32#32
  let v821 : BitVec 32 := Scalar.remsi v820 c32_i32_613
  let c1_i32_617 : BitVec 32 := 1#32
  let v824 : BitVec 32 := Scalar.muli v821 c1_i32_617
  let v825 : BitVec 32 := Scalar.addi c0_i32_618 v824
  v825.toNat
def k0_dev51 (d0 : Dev nD) : Nat :=
  let c0_i32_627 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_621 : BitVec 32 := 20#32
  let v832 : BitVec 32 := Scalar.addi v2 c20_i32_621
  let c32_i32_622 : BitVec 32 := 32#32
  let v833 : BitVec 32 := Scalar.remsi v832 c32_i32_622
  let c1_i32_626 : BitVec 32 := 1#32
  let v836 : BitVec 32 := Scalar.muli v833 c1_i32_626
  let v837 : BitVec 32 := Scalar.addi c0_i32_627 v836
  v837.toNat
def k0_dev52 (d0 : Dev nD) : Nat :=
  let c0_i32_636 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_630 : BitVec 32 := 21#32
  let v844 : BitVec 32 := Scalar.addi v2 c21_i32_630
  let c32_i32_631 : BitVec 32 := 32#32
  let v845 : BitVec 32 := Scalar.remsi v844 c32_i32_631
  let c1_i32_635 : BitVec 32 := 1#32
  let v848 : BitVec 32 := Scalar.muli v845 c1_i32_635
  let v849 : BitVec 32 := Scalar.addi c0_i32_636 v848
  v849.toNat
def k0_dev53 (d0 : Dev nD) : Nat :=
  let c0_i32_645 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_639 : BitVec 32 := 22#32
  let v856 : BitVec 32 := Scalar.addi v2 c22_i32_639
  let c32_i32_640 : BitVec 32 := 32#32
  let v857 : BitVec 32 := Scalar.remsi v856 c32_i32_640
  let c1_i32_644 : BitVec 32 := 1#32
  let v860 : BitVec 32 := Scalar.muli v857 c1_i32_644
  let v861 : BitVec 32 := Scalar.addi c0_i32_645 v860
  v861.toNat
def k0_dev54 (d0 : Dev nD) : Nat :=
  let c0_i32_654 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_648 : BitVec 32 := 23#32
  let v868 : BitVec 32 := Scalar.addi v2 c23_i32_648
  let c32_i32_649 : BitVec 32 := 32#32
  let v869 : BitVec 32 := Scalar.remsi v868 c32_i32_649
  let c1_i32_653 : BitVec 32 := 1#32
  let v872 : BitVec 32 := Scalar.muli v869 c1_i32_653
  let v873 : BitVec 32 := Scalar.addi c0_i32_654 v872
  v873.toNat
def k0_dev55 (d0 : Dev nD) : Nat :=
  let c0_i32_663 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_657 : BitVec 32 := 24#32
  let v880 : BitVec 32 := Scalar.addi v2 c24_i32_657
  let c32_i32_658 : BitVec 32 := 32#32
  let v881 : BitVec 32 := Scalar.remsi v880 c32_i32_658
  let c1_i32_662 : BitVec 32 := 1#32
  let v884 : BitVec 32 := Scalar.muli v881 c1_i32_662
  let v885 : BitVec 32 := Scalar.addi c0_i32_663 v884
  v885.toNat
def k0_dev56 (d0 : Dev nD) : Nat :=
  let c0_i32_672 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_666 : BitVec 32 := 25#32
  let v892 : BitVec 32 := Scalar.addi v2 c25_i32_666
  let c32_i32_667 : BitVec 32 := 32#32
  let v893 : BitVec 32 := Scalar.remsi v892 c32_i32_667
  let c1_i32_671 : BitVec 32 := 1#32
  let v896 : BitVec 32 := Scalar.muli v893 c1_i32_671
  let v897 : BitVec 32 := Scalar.addi c0_i32_672 v896
  v897.toNat
def k0_dev57 (d0 : Dev nD) : Nat :=
  let c0_i32_681 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_675 : BitVec 32 := 26#32
  let v904 : BitVec 32 := Scalar.addi v2 c26_i32_675
  let c32_i32_676 : BitVec 32 := 32#32
  let v905 : BitVec 32 := Scalar.remsi v904 c32_i32_676
  let c1_i32_680 : BitVec 32 := 1#32
  let v908 : BitVec 32 := Scalar.muli v905 c1_i32_680
  let v909 : BitVec 32 := Scalar.addi c0_i32_681 v908
  v909.toNat
def k0_dev58 (d0 : Dev nD) : Nat :=
  let c0_i32_690 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_684 : BitVec 32 := 27#32
  let v916 : BitVec 32 := Scalar.addi v2 c27_i32_684
  let c32_i32_685 : BitVec 32 := 32#32
  let v917 : BitVec 32 := Scalar.remsi v916 c32_i32_685
  let c1_i32_689 : BitVec 32 := 1#32
  let v920 : BitVec 32 := Scalar.muli v917 c1_i32_689
  let v921 : BitVec 32 := Scalar.addi c0_i32_690 v920
  v921.toNat
def k0_dev59 (d0 : Dev nD) : Nat :=
  let c0_i32_699 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_693 : BitVec 32 := 28#32
  let v928 : BitVec 32 := Scalar.addi v2 c28_i32_693
  let c32_i32_694 : BitVec 32 := 32#32
  let v929 : BitVec 32 := Scalar.remsi v928 c32_i32_694
  let c1_i32_698 : BitVec 32 := 1#32
  let v932 : BitVec 32 := Scalar.muli v929 c1_i32_698
  let v933 : BitVec 32 := Scalar.addi c0_i32_699 v932
  v933.toNat
def k0_dev60 (d0 : Dev nD) : Nat :=
  let c0_i32_708 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_702 : BitVec 32 := 29#32
  let v940 : BitVec 32 := Scalar.addi v2 c29_i32_702
  let c32_i32_703 : BitVec 32 := 32#32
  let v941 : BitVec 32 := Scalar.remsi v940 c32_i32_703
  let c1_i32_707 : BitVec 32 := 1#32
  let v944 : BitVec 32 := Scalar.muli v941 c1_i32_707
  let v945 : BitVec 32 := Scalar.addi c0_i32_708 v944
  v945.toNat
def k0_dev61 (d0 : Dev nD) : Nat :=
  let c0_i32_717 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_711 : BitVec 32 := 30#32
  let v952 : BitVec 32 := Scalar.addi v2 c30_i32_711
  let c32_i32_712 : BitVec 32 := 32#32
  let v953 : BitVec 32 := Scalar.remsi v952 c32_i32_712
  let c1_i32_716 : BitVec 32 := 1#32
  let v956 : BitVec 32 := Scalar.muli v953 c1_i32_716
  let v957 : BitVec 32 := Scalar.addi c0_i32_717 v956
  v957.toNat
def k0_dev62 (d0 : Dev nD) : Nat :=
  let c0_i32_726 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_720 : BitVec 32 := 31#32
  let v964 : BitVec 32 := Scalar.addi v2 c31_i32_720
  let c32_i32_721 : BitVec 32 := 32#32
  let v965 : BitVec 32 := Scalar.remsi v964 c32_i32_721
  let c1_i32_725 : BitVec 32 := 1#32
  let v968 : BitVec 32 := Scalar.muli v965 c1_i32_725
  let v969 : BitVec 32 := Scalar.addi c0_i32_726 v968
  v969.toNat
def k0_off6 (d0 : Dev nD) (c1_i32_730 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_729 : BitVec 32 := 32#32
  let v976 : BitVec 32 := Scalar.addi v2 c32_i32_729
  let v977 : BitVec 32 := Scalar.subi v976 c1_i32_730
  let c32_i32_731 : BitVec 32 := 32#32
  let v978 : BitVec 32 := Scalar.remsi v977 c32_i32_731
  ![v978.toNat]
def k0_off7 (d0 : Dev nD) (c1_i32_730 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_729 : BitVec 32 := 32#32
  let v976 : BitVec 32 := Scalar.addi v2 c32_i32_729
  let v977 : BitVec 32 := Scalar.subi v976 c1_i32_730
  let c32_i32_731 : BitVec 32 := 32#32
  let v978 : BitVec 32 := Scalar.remsi v977 c32_i32_731
  let c128_i32_733 : BitVec 32 := 128#32
  let v980 : BitVec 32 := Scalar.muli v978 c128_i32_733
  let c0_i32_737 : BitVec 32 := 0#32
  ![v980.toNat, 0]
def k0_off8 (d0 : Dev nD) (c1_i32_730 : BitVec 32) : Fin 2 → Nat :=
  let c0_i32_738 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_729 : BitVec 32 := 32#32
  let v976 : BitVec 32 := Scalar.addi v2 c32_i32_729
  let v977 : BitVec 32 := Scalar.subi v976 c1_i32_730
  let c32_i32_731 : BitVec 32 := 32#32
  let v978 : BitVec 32 := Scalar.remsi v977 c32_i32_731
  let c256_i32_732 : BitVec 32 := 256#32
  let v979 : BitVec 32 := Scalar.muli v978 c256_i32_732
  ![0, v979.toNat]
abbrev stage0_0 : Fin 1 → Memref sig .tc .vmem S128x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e4m3⟩
  | .local _ .vmem, ⟨1, _⟩ => ⟨S4096x8192, .f32⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.OnKernel.Printed.lean ====
/-
# The printed body is the plan
-/
module

public import proofs.«01_k».proof.Proof.OnKernel.Plan

@[expose] public section

noncomputable section

namespace Cert.Kernel.Plan

open Cert.Kernel Cert.Kernel.Gen
open Idealize.ShloMosaic Idealize.SL.Sem

variable {F : FTy → Type} [FloatOps F]

variable (xM : Memref sig .tc .vmem S128x4096 .fp8e4m3) (wM : Memref sig .tc .hbm S4096x8192 .f32)
  (aM bM : Memref sig .tc .smem S1 .f32) (oM : Memref sig .tc .vmem S4096x256 .f32)
  (bufM : Memref sig .tc .vmem S2x4096x512 .f32) (yM : Memref sig .tc .vmem S128x8192 .f32)
  (cS : DmaSems sig S2) (sS : DmaSems sig S31) (rS : DmaSems sig S32)

set_option maxRecDepth 65536 in
set_option maxHeartbeats 0 in
/-- The printed body is the plan, its signals and copies addressed as printed. -/
theorem body_eq_plan (hx : xM.IsWhole) (hw : wM.IsWhole) (ha : aM.IsWhole) (hb : bM.IsWhole) (ho : oM.IsWhole)
    (hbuf : bufM.IsWhole) (hy : yM.IsWhole) :
    cc0_body (F := F) xM hx wM hw aM ha bM hb oM ho bufM hbuf yM hy cS sS rS
      = plan xM wM aM bM oM bufM yM cS sS rS sigDev sendDev := rfl

end Cert.Kernel.Plan

end
-- ==== Proof.OnKernelIdeal.Plan.lean ====
/-
# The kernel's body as a plan

The body of `KernelIdeal` is printed as one long straight line. It is, in order: one signal to each of the 31 peers'
barrier semaphores; the scale and the left operand; sixteen column chunks of the product, the right operand
double-buffered; the device's own tile of the result; the wait on the barrier; 31 remote copies; 31 waits for what the
peers send; 31 waits for what was sent. Here each kind of step is written once, over its index, and the printed body is
shown to be the sequence of these steps.
-/
module

public import proofs.«01_k».proof.Proof.Gen.KernelIdeal.Skeleton

@[expose] public section

noncomputable section

namespace Cert.KernelIdeal.Plan

open Cert.KernelIdeal Cert.KernelIdeal.Gen
open Idealize.ShloMosaic Idealize.SL.Sem

variable {F : FTy → Type} [FloatOps F]

/-- The programs of one TensorCore. -/
abbrev P (F : FTy → Type) [FloatOps F] := Prog (TpuEff nD τ sig (Elt F) Λ₀ .tc)

/-- One step per element of a list, in its order. -/
def steps {ι : Type} (f : ι → P F PUnit) : List ι → P F PUnit
  | [] => .ret ⟨⟩
  | i :: l => f i >>= fun _ => steps f l

/-- The 31 distances from a device to its peers, less one. -/
abbrev dist : List (Fin 31) :=
  [0, 1, 2, 3, 4, 5, 6, 7, 8, 9, 10, 11, 12, 13, 14, 15, 16, 17, 18, 19, 20, 21, 22, 23, 24, 25, 26, 27, 28, 29, 30]

/-- The word of the distance `h + 1`. -/
abbrev dw (h : Fin 31) : BitVec 32 := BitVec.ofNat 32 (1 + h.val)

/-- The devices the signals name, as printed. -/
def sigDev (c : Dev nD) : Fin 31 → Dev nD :=
  ![⟨k0_dev1 c, k0_dev1_lt c⟩, ⟨k0_dev2 c, k0_dev2_lt c⟩, ⟨k0_dev3 c, k0_dev3_lt c⟩, ⟨k0_dev4 c, k0_dev4_lt c⟩,
    ⟨k0_dev5 c, k0_dev5_lt c⟩, ⟨k0_dev6 c, k0_dev6_lt c⟩, ⟨k0_dev7 c, k0_dev7_lt c⟩, ⟨k0_dev8 c, k0_dev8_lt c⟩,
    ⟨k0_dev9 c, k0_dev9_lt c⟩, ⟨k0_dev10 c, k0_dev10_lt c⟩, ⟨k0_dev11 c, k0_dev11_lt c⟩, ⟨k0_dev12 c, k0_dev12_lt c⟩,
    ⟨k0_dev13 c, k0_dev13_lt c⟩, ⟨k0_dev14 c, k0_dev14_lt c⟩, ⟨k0_dev15 c, k0_dev15_lt c⟩, ⟨k0_dev16 c, k0_dev16_lt c⟩,
    ⟨k0_dev17 c, k0_dev17_lt c⟩, ⟨k0_dev18 c, k0_dev18_lt c⟩, ⟨k0_dev19 c, k0_dev19_lt c⟩, ⟨k0_dev20 c, k0_dev20_lt c⟩,
    ⟨k0_dev21 c, k0_dev21_lt c⟩, ⟨k0_dev22 c, k0_dev22_lt c⟩, ⟨k0_dev23 c, k0_dev23_lt c⟩, ⟨k0_dev24 c, k0_dev24_lt c⟩,
    ⟨k0_dev25 c, k0_dev25_lt c⟩, ⟨k0_dev26 c, k0_dev26_lt c⟩, ⟨k0_dev27 c, k0_dev27_lt c⟩, ⟨k0_dev28 c, k0_dev28_lt c⟩,
    ⟨k0_dev29 c, k0_dev29_lt c⟩, ⟨k0_dev30 c, k0_dev30_lt c⟩, ⟨k0_dev31 c, k0_dev31_lt c⟩]

/-- The devices the remote copies name, as printed. -/
def sendDev (c : Dev nD) : Fin 31 → Dev nD :=
  ![⟨k0_dev32 c, k0_dev32_lt c⟩, ⟨k0_dev33 c, k0_dev33_lt c⟩, ⟨k0_dev34 c, k0_dev34_lt c⟩, ⟨k0_dev35 c, k0_dev35_lt c⟩,
    ⟨k0_dev36 c, k0_dev36_lt c⟩, ⟨k0_dev37 c, k0_dev37_lt c⟩, ⟨k0_dev38 c, k0_dev38_lt c⟩, ⟨k0_dev39 c, k0_dev39_lt c⟩,
    ⟨k0_dev40 c, k0_dev40_lt c⟩, ⟨k0_dev41 c, k0_dev41_lt c⟩, ⟨k0_dev42 c, k0_dev42_lt c⟩, ⟨k0_dev43 c, k0_dev43_lt c⟩,
    ⟨k0_dev44 c, k0_dev44_lt c⟩, ⟨k0_dev45 c, k0_dev45_lt c⟩, ⟨k0_dev46 c, k0_dev46_lt c⟩, ⟨k0_dev47 c, k0_dev47_lt c⟩,
    ⟨k0_dev48 c, k0_dev48_lt c⟩, ⟨k0_dev49 c, k0_dev49_lt c⟩, ⟨k0_dev50 c, k0_dev50_lt c⟩, ⟨k0_dev51 c, k0_dev51_lt c⟩,
    ⟨k0_dev52 c, k0_dev52_lt c⟩, ⟨k0_dev53 c, k0_dev53_lt c⟩, ⟨k0_dev54 c, k0_dev54_lt c⟩, ⟨k0_dev55 c, k0_dev55_lt c⟩,
    ⟨k0_dev56 c, k0_dev56_lt c⟩, ⟨k0_dev57 c, k0_dev57_lt c⟩, ⟨k0_dev58 c, k0_dev58_lt c⟩, ⟨k0_dev59 c, k0_dev59_lt c⟩,
    ⟨k0_dev60 c, k0_dev60_lt c⟩, ⟨k0_dev61 c, k0_dev61_lt c⟩, ⟨k0_dev62 c, k0_dev62_lt c⟩]

section Steps

variable (xM : Memref sig .tc .vmem S128x4096 .fp8e4m3) (wM : Memref sig .tc .hbm S4096x8192 .f32)
  (aM bM : Memref sig .tc .smem S1 .f32) (oM : Memref sig .tc .vmem S4096x256 .f32)
  (bufM : Memref sig .tc .vmem S2x4096x512 .f32) (yM : Memref sig .tc .vmem S128x8192 .f32)
  (cS : DmaSems sig S2) (sS : DmaSems sig S31) (rS : DmaSems sig S32)

/-- The columns of `y` a device keeps, and the rows of the result it writes, by the printed offsets. -/
abbrev ownY (c : Dev nD) : Rect S128x8192 := Rect.unit (s := S128x8192) (k0_off1 c) S128x256.size (k0_off1_inb c)
abbrev ownO (c : Dev nD) : Rect S4096x256 := Rect.unit (s := S4096x256) (k0_off2 c) S128x256.size (k0_off2_inb c)

/-- The columns of `y` meant for the peer at distance `h + 1`. -/
abbrev yTo (c : Dev nD) (h : Fin 31) : Memref sig .tc .vmem S128x256 .f32 :=
  yM.slice (Rect.unit (s := S128x8192) (k0_off5 c (dw h)) S128x256.size (k0_off5_inb c h)) (fun _ => rfl)
/-- The rows of the result that device `c` fills, on every device. -/
abbrev oFrom (c : Dev nD) : Memref sig .tc .vmem S128x256 .f32 :=
  oM.slice (Rect.unit (s := S4096x256) (k0_off4 c) S128x256.size (k0_off4_inb c)) (fun _ => rfl)
/-- The columns of `y` and the rows of the result the receive wait at distance `h + 1` names. -/
abbrev yAt (c : Dev nD) (h : Fin 31) : Memref sig .tc .vmem S128x256 .f32 :=
  yM.slice (Rect.unit (s := S128x8192) (k0_off8 c (dw h)) S128x256.size (k0_off8_inb c h)) (fun _ => rfl)
abbrev oAt (c : Dev nD) (h : Fin 31) : Memref sig .tc .vmem S128x256 .f32 :=
  oM.slice (Rect.unit (s := S4096x256) (k0_off7 c (dw h)) S128x256.size (k0_off7_inb c h)) (fun _ => rfl)

theorem inb_send (h : Fin 31) : ∀ a, (![h.val] : Fin 1 → Nat) a + S1.size a ≤ S31.size a := by revert h; decide

/-- The send semaphore of distance `h + 1`, the receive semaphore device `c`'s copies credit on their targets, and the
    receive semaphore of the peer at distance `h + 1` behind. -/
abbrev sendSem (h : Fin 31) : DmaSems sig S_ :=
  (sS.slice (Rect.unit (s := S31) ![h.val] S1.size (inb_send h))).squeeze S_ squeezes_S1_S_
abbrev recvTo (c : Dev nD) : DmaSems sig S_ :=
  (rS.slice (Rect.unit (s := S32) (k0_off3 c) S1.size (k0_off3_inb c))).squeeze S_ squeezes_S1_S_
abbrev recvAt (c : Dev nD) (h : Fin 31) : DmaSems sig S_ :=
  (rS.slice (Rect.unit (s := S32) (k0_off6 c (dw h)) S1.size (k0_off6_inb c h))).squeeze S_ squeezes_S1_S_

/-- The runtime's barrier semaphore. -/
abbrev barS : Sem sig := (SemArray.scalar (sig.barrier 0 rfl) : Sems sig S_).sem

/-- The signal to a peer `n`. -/
def signalStep (n : Dev nD) : P F PUnit := semSignalWord n barS 1#32

/-- The copy to the peer `n` at distance `h + 1`. -/
def sendStep (c n : Dev nD) (h : Fin 31) : P F PUnit :=
  Prog.lift (.enqueueDma (yTo yM c h) (.remote (Dev.tc n) (oFrom oM c) (.dma (sendSem sS h).sem)) (.dma (recvTo rS c).sem)
    (View.wordExact_bits rfl) (View.wordExact_bits rfl) ⟨⟨rfl, Or.inl rfl⟩, trivial⟩)

/-- The wait for what the peer at distance `h + 1` behind sends. -/
def recvStep (c : Dev nD) (h : Fin 31) : P F PUnit :=
  Prog.lift (.waitDma2 (recvAt rS c h).sem (yAt yM c h) (oAt oM c h) (View.wordExact_bits rfl) (View.wordExact_bits rfl))

/-- The wait for the departure of the copy at distance `h + 1`. -/
def sentStep (c : Dev nD) (h : Fin 31) : P F PUnit :=
  Prog.lift (.waitDma2 (sendSem sS h).sem (oFrom oM c) (yTo yM c h) (View.wordExact_bits rfl) (View.wordExact_bits rfl))

/-! ### The chunks of the product -/

theorem inb_w (i : Fin 16) : ∀ a, (![0, 512 * i.val] : Fin 2 → Nat) a + S4096x512.size a ≤ S4096x8192.size a := by
  revert i; decide
theorem inb_y (i : Fin 16) : ∀ a, (![0, 512 * i.val] : Fin 2 → Nat) a + S128x512.size a ≤ S128x8192.size a := by
  revert i; decide
theorem inb_slot (s : Fin 2) : ∀ a, (![s.val, 0, 0] : Fin 3 → Nat) a + S1x4096x512.size a ≤ S2x4096x512.size a := by
  revert s; decide
theorem inb_sem (s : Fin 2) : ∀ a, (![s.val] : Fin 1 → Nat) a + S1.size a ≤ S2.size a := by revert s; decide

/-- The slot chunk `i` goes through. -/
abbrev slotOf (i : Fin 16) : Fin 2 := ⟨i.val % 2, Nat.mod_lt _ (by decide)⟩

/-- Chunk `i` of the right operand, slot `s` of its buffer and the slot's semaphore. -/
abbrev wAt (i : Fin 16) : Memref sig .tc .hbm S4096x512 .f32 :=
  wM.slice (Rect.unit (s := S4096x8192) ![0, 512 * i.val] S4096x512.size (inb_w i)) (fun _ => rfl)
abbrev slotAt (s : Fin 2) : Memref sig .tc .vmem S4096x512 .f32 :=
  (bufM.slice (Rect.unit (s := S2x4096x512) ![s.val, 0, 0] S1x4096x512.size (inb_slot s)) (fun _ => rfl)).squeeze S4096x512
    squeezes_S1x4096x512_S4096x512
abbrev semAt (s : Fin 2) : DmaSems sig S_ := (cS.slice (Rect.unit (s := S2) ![s.val] S1.size (inb_sem s))).squeeze S_ squeezes_S1_S_

/-- Chunk `i`'s columns of `y`. -/
abbrev yCols (i : Fin 16) : Rect S128x8192 := Rect.unit (s := S128x8192) ![0, 512 * i.val] S128x512.size (inb_y i)

/-- The start of chunk `i`'s copy into slot `s`. -/
def startChunk (i : Fin 16) (s : Fin 2) : P F PUnit :=
  Prog.lift (.enqueueDma (wAt wM i) (.here (slotAt bufM s)) (.dma (semAt cS s).sem) (View.wordExact_bits rfl)
    ((View.wordExact_bits rfl).reshape _ _) ⟨Or.inl rfl, trivial⟩)

/-- The wait for chunk `i`'s copy and the load of its slot. -/
def takeChunk (i : Fin 16) (s : Fin 2) : P F (Vec F S1x4096x512 .f32) :=
  Prog.lift (.waitDma2 (semAt cS s).sem (wAt wM i) (slotAt bufM s) (View.wordExact_bits rfl)
    ((View.wordExact_bits rfl).reshape _ _)) >>= fun _ =>
  Prog.lift (.load bufM (Rect.unit (s := S2x4096x512) ![s.val, 0, 0] S1x4096x512.size (inb_slot s)).toLoadRect
    (View.loadsAt_vmem h_S1x4096x512))

/-- The store of chunk `i`'s part of `y`, the columns read first. -/
def putChunk (i : Fin 16) (y : FVec F S128x512 .f32) : P F PUnit :=
  Prog.lift (.load yM (yCols i).toLoadRect (View.loadsAt_vmem h_S128x512)) >>= fun _ =>
  Prog.lift (.store yM (yCols i) y Finset.univ (View.stores_vmem_bits_univ h_S128x512 rfl) (.inl rfl))

/-- Chunk `i` in slot `s`, chunk `j` started into the slot once it is read. -/
def chunkNext (a : F .f32) (x : FVec F S128x4096 .bf16) (s : Fin 2) (i j : Fin 16) : P F PUnit :=
  takeChunk wM bufM cS i s >>= fun w => startChunk wM bufM cS j s >>= fun _ => putChunk yM i (k0_pay3 a x w)

/-- Chunk `i` in slot `s`, nothing started. -/
def chunkLast (a : F .f32) (x : FVec F S128x4096 .bf16) (s : Fin 2) (i : Fin 16) : P F PUnit :=
  takeChunk wM bufM cS i s >>= fun w => putChunk yM i (k0_pay3 a x w)

/-- The product: chunks 0 and 1 started, then the sixteen chunks. -/
def product (a : F .f32) (x : FVec F S128x4096 .bf16) : P F PUnit :=
  startChunk wM bufM cS 0 0 >>= fun _ => startChunk wM bufM cS 1 1 >>= fun _ =>
  chunkNext wM bufM yM cS a x 0 0 2 >>= fun _ => chunkNext wM bufM yM cS a x 1 1 3 >>= fun _ =>
  chunkNext wM bufM yM cS a x 0 2 4 >>= fun _ => chunkNext wM bufM yM cS a x 1 3 5 >>= fun _ =>
  chunkNext wM bufM yM cS a x 0 4 6 >>= fun _ => chunkNext wM bufM yM cS a x 1 5 7 >>= fun _ =>
  chunkNext wM bufM yM cS a x 0 6 8 >>= fun _ => chunkNext wM bufM yM cS a x 1 7 9 >>= fun _ =>
  chunkNext wM bufM yM cS a x 0 8 10 >>= fun _ => chunkNext wM bufM yM cS a x 1 9 11 >>= fun _ =>
  chunkNext wM bufM yM cS a x 0 10 12 >>= fun _ => chunkNext wM bufM yM cS a x 1 11 13 >>= fun _ =>
  chunkNext wM bufM yM cS a x 0 12 14 >>= fun _ => chunkNext wM bufM yM cS a x 1 13 15 >>= fun _ =>
  chunkLast wM bufM yM cS a x 0 14 >>= fun _ => chunkLast wM bufM yM cS a x 1 15

/-- The scale and the left operand. -/
def operands : P F (F .f32 × FVec F S128x4096 .bf16) :=
  smemLoad aM (Rect.unit (s := S1) ![0] S1.size inb_S1_S1_0) numel1_S1 rfl >>= fun a =>
  smemLoad bM (Rect.unit (s := S1) ![0] S1.size inb_S1_S1_0) numel1_S1 rfl >>= fun b =>
  Prog.lift (.load xM (Rect.unit (s := S128x4096) ![0, 0] S128x4096.size inb_S128x4096_S128x4096_0_0).toLoadRect
    (View.loadsAt_vmem h_S128x4096)) >>= fun x =>
  .ret (k0_pay1 a b, k0_pay2 x)

/-- The device's own tile: its columns of `y` stored at its rows of the result. -/
def keepOwn (c : Dev nD) : P F PUnit :=
  Prog.lift (.load yM (ownY c).toLoadRect (View.loadsAt_vmem h_S128x256)) >>= fun v =>
  Prog.lift (.load oM (ownO c).toLoadRect (View.loadsAt_vmem h_S128x256)) >>= fun _ =>
  Prog.lift (.store oM (ownO c) v Finset.univ (View.stores_vmem_bits_univ h_S128x256 rfl) (.inl rfl))

/-- The whole body, the signals and copies addressed by `g` and `n`. -/
def plan (g n : Dev nD → Fin 31 → Dev nD) : P F PUnit :=
  Prog.lift .deviceId >>= fun c =>
  steps (fun h => signalStep (g c h)) dist >>= fun _ =>
  operands xM aM bM >>= fun p =>
  product wM bufM yM cS p.1 p.2 >>= fun _ =>
  keepOwn oM yM c >>= fun _ =>
  semWaitWord barS 31#32 >>= fun _ =>
  steps (fun h => sendStep oM yM sS rS c (n c h) h) dist >>= fun _ =>
  steps (fun h => recvStep oM yM rS c h) dist >>= fun _ =>
  steps (fun h => sentStep oM yM sS c h) dist

end Steps

end Cert.KernelIdeal.Plan

end
-- ==== Proof.OnKernelIdeal.Printed.lean ====
/-
# The printed body is the plan
-/
module

public import proofs.«01_k».proof.Proof.OnKernelIdeal.Plan

@[expose] public section

noncomputable section

namespace Cert.KernelIdeal.Plan

open Cert.KernelIdeal Cert.KernelIdeal.Gen
open Idealize.ShloMosaic Idealize.SL.Sem

variable {F : FTy → Type} [FloatOps F]

variable (xM : Memref sig .tc .vmem S128x4096 .fp8e4m3) (wM : Memref sig .tc .hbm S4096x8192 .f32)
  (aM bM : Memref sig .tc .smem S1 .f32) (oM : Memref sig .tc .vmem S4096x256 .f32)
  (bufM : Memref sig .tc .vmem S2x4096x512 .f32) (yM : Memref sig .tc .vmem S128x8192 .f32)
  (cS : DmaSems sig S2) (sS : DmaSems sig S31) (rS : DmaSems sig S32)

set_option maxRecDepth 65536 in
set_option maxHeartbeats 0 in
/-- The printed body is the plan, its signals and copies addressed as printed. -/
theorem body_eq_plan (hx : xM.IsWhole) (hw : wM.IsWhole) (ha : aM.IsWhole) (hb : bM.IsWhole) (ho : oM.IsWhole)
    (hbuf : bufM.IsWhole) (hy : yM.IsWhole) :
    cc0_body (F := F) xM hx wM hw aM ha bM hb oM ho bufM hbuf yM hy cS sS rS
      = plan xM wM aM bM oM bufM yM cS sS rS sigDev sendDev := rfl

end Cert.KernelIdeal.Plan

end
-- ==== Proof.OnKernelIdeal.Places.lean ====
/-
# Where the kernel reads, writes and signals

Device `c`'s peer at distance `h + 1` ahead is `peer c h`, the one behind is `src c h`. The result of a device is cut
into 32 bands of 128 rows, band `p` filled by device `p`; the product `y` of a device is cut into 32 bands of 256
columns, band `p` meant for device `p`. The printed offsets and semaphores, read in these terms.
-/
module

public import proofs.«01_k».proof.Proof.OnKernelIdeal.Plan
public import Idealize.ShloMosaic.Lib.Pipeline.Value
public import Idealize.ShloMosaic.Lib.Pipeline.ValueKit.Geometry

@[expose] public section

noncomputable section

namespace Cert.KernelIdeal.Plan

open Cert.KernelIdeal Cert.KernelIdeal.Gen
open Idealize.ShloMosaic Idealize.SL.Sem

/-! ## Devices -/

/-- The device `h + 1` places ahead on the ring, and the one as far behind. -/
def peer (c : Dev nD) (h : Fin 31) : Dev nD := ⟨(c.val + h.val + 1) % 32, Nat.mod_lt _ (by decide)⟩
def src (c : Dev nD) (h : Fin 31) : Dev nD := ⟨(c.val + 31 - h.val) % 32, Nat.mod_lt _ (by decide)⟩

theorem src_peer (c : Dev nD) (h : Fin 31) : src (peer c h) h = c := by
  apply Fin.ext; have hc : c.val < 32 := c.isLt; have := h.isLt; simp only [src, peer]; omega
theorem peer_src (c : Dev nD) (h : Fin 31) : peer (src c h) h = c := by
  apply Fin.ext; have hc : c.val < 32 := c.isLt; have := h.isLt; simp only [src, peer]; omega
theorem peer_ne (c : Dev nD) (h : Fin 31) : peer c h ≠ c := by
  intro e; have := congrArg Fin.val e; have hc : c.val < 32 := c.isLt; have := h.isLt; simp only [peer] at *; omega
theorem src_ne (c : Dev nD) (h : Fin 31) : src c h ≠ c := by
  intro e; have := congrArg Fin.val e; have hc : c.val < 32 := c.isLt; have := h.isLt; simp only [src] at *; omega
theorem peer_inj (c : Dev nD) : Function.Injective (peer c) := by
  intro h h' e; have := congrArg Fin.val e; have hc : c.val < 32 := c.isLt; have := h.isLt; have := h'.isLt
  apply Fin.ext; simp only [peer] at *; omega
theorem src_inj (c : Dev nD) : Function.Injective (src c) := by
  intro h h' e; have := congrArg Fin.val e; have hc : c.val < 32 := c.isLt; have := h.isLt; have := h'.isLt
  apply Fin.ext; simp only [src] at *; omega

/-- Every other device is a peer ahead, once. -/
theorem image_peer : ∀ c : Dev nD, (Finset.univ : Finset (Fin 31)).image (peer c) = Finset.univ.erase c := by decide +kernel
/-- Every other device is a peer behind, once. -/
theorem image_src : ∀ c : Dev nD, (Finset.univ : Finset (Fin 31)).image (src c) = Finset.univ.erase c := by decide +kernel

set_option maxRecDepth 16384 in
/-- The printed devices are the peers ahead. -/
theorem sigDev_eq : ∀ (c : Dev nD) (h : Fin 31), sigDev c h = peer c h := by decide +kernel
set_option maxRecDepth 16384 in
theorem sendDev_eq : ∀ (c : Dev nD) (h : Fin 31), sendDev c h = peer c h := by decide +kernel

/-! ## Offsets -/

theorem off1_eq : ∀ c : Dev nD, k0_off1 c = ![0, 256 * c.val] := by decide +kernel
theorem off2_eq : ∀ c : Dev nD, k0_off2 c = ![128 * c.val, 0] := by decide +kernel
theorem off4_eq : ∀ c : Dev nD, k0_off4 c = ![128 * c.val, 0] := by decide +kernel
theorem off5_eq : ∀ (c : Dev nD) (h : Fin 31), k0_off5 c (dw h) = ![0, 256 * (peer c h).val] := by decide +kernel

/-! ## Buffers -/

abbrev xW : Memref sig .tc .vmem S128x4096 .fp8e4m3 := Memref.whole cc0_stg0_0
abbrev wW : Memref sig .tc .hbm S4096x8192 .f32 := Memref.whole main_arg1
abbrev aW : Memref sig .tc .smem S1 .f32 := Memref.whole cc0_stg1_0
abbrev bW : Memref sig .tc .smem S1 .f32 := Memref.whole cc0_stg2_0
abbrev oW : Memref sig .tc .vmem S4096x256 .f32 := Memref.whole cc0_stg3_0
abbrev bufW : Memref sig .tc .vmem S2x4096x512 .f32 := Memref.whole cc0_scratch0
abbrev yW : Memref sig .tc .vmem S128x8192 .f32 := Memref.whole cc0_scratch1

/-! ## Bands -/

/-- Band `p` of the result's rows and band `p` of `y`'s columns. -/
def rows (p : Dev nD) : Finset S4096x256.Idx := Finset.univ.filter fun i => (i 0).val / 128 = p.val
def cols (p : Dev nD) : Finset S128x8192.Idx := Finset.univ.filter fun i => (i 1).val / 256 = p.val

theorem mem_rows (p : Dev nD) (i : S4096x256.Idx) : i ∈ rows p ↔ (i 0).val / 128 = p.val := by simp [rows]
theorem mem_cols (p : Dev nD) (i : S128x8192.Idx) : i ∈ cols p ↔ (i 1).val / 256 = p.val := by simp [cols]

theorem rows_disjoint (p q : Dev nD) (h : p ≠ q) : Disjoint (rows p) (rows q) :=
  Finset.disjoint_left.mpr fun i hp hq => h (Fin.ext (((mem_rows p i).1 hp).symm.trans ((mem_rows q i).1 hq)))
theorem cols_disjoint (p q : Dev nD) (h : p ≠ q) : Disjoint (cols p) (cols q) :=
  Finset.disjoint_left.mpr fun i hp hq => h (Fin.ext (((mem_cols p i).1 hp).symm.trans ((mem_cols q i).1 hq)))

theorem rows_cover : (Finset.univ : Finset (Dev nD)).biUnion rows = Finset.univ := by
  refine Finset.eq_univ_of_forall fun i => Finset.mem_biUnion.mpr ⟨⟨(i 0).val / 128, ?_⟩, Finset.mem_univ _, (mem_rows _ i).2 rfl⟩
  have h : (i 0).val < 4096 := (i 0).isLt
  show (i 0).val / 128 < 32; omega
theorem cols_cover : (Finset.univ : Finset (Dev nD)).biUnion cols = Finset.univ := by
  refine Finset.eq_univ_of_forall fun i => Finset.mem_biUnion.mpr ⟨⟨(i 1).val / 256, ?_⟩, Finset.mem_univ _, (mem_cols _ i).2 rfl⟩
  have h : (i 1).val < 8192 := (i 1).isLt
  show (i 1).val / 256 < 32; omega

/-- The elements of a rectangle of 128 rows of the result from row `128 p` are band `p`. -/
theorem set_rows (p : Dev nD) (off : Fin 2 → Nat) (inb) (hoff : off = ![128 * p.val, 0]) :
    (Rect.unit (s := S4096x256) off S128x256.size inb).set = rows p := by
  subst hoff
  ext i
  rw [Rect.mem_set_unit, mem_rows, Fin.forall_fin_two]
  have h0 : (i 0).val < 4096 := (i 0).isLt
  have h1 : (i 1).val < 256 := (i 1).isLt
  show (128 * p.val ≤ (i 0).val ∧ (i 0).val < 128 * p.val + 128) ∧ (0 ≤ (i 1).val ∧ (i 1).val < 0 + 256) ↔ _
  omega

/-- The elements of a rectangle of 256 columns of `y` from column `256 p` are band `p`. -/
theorem set_cols (p : Dev nD) (off : Fin 2 → Nat) (inb) (hoff : off = ![0, 256 * p.val]) :
    (Rect.unit (s := S128x8192) off S128x256.size inb).set = cols p := by
  subst hoff
  ext i
  rw [Rect.mem_set_unit, mem_cols, Fin.forall_fin_two]
  have h0 : (i 0).val < 128 := (i 0).isLt
  have h1 : (i 1).val < 8192 := (i 1).isLt
  show (0 ≤ (i 0).val ∧ (i 0).val < 0 + 128) ∧ (256 * p.val ≤ (i 1).val ∧ (i 1).val < 256 * p.val + 256) ↔ _
  omega

theorem yTo_set (c : Dev nD) (h : Fin 31) : (yTo yW c h).view.set = cols (peer c h) :=
  (View.set_slice_whole cc0_scratch1 _).trans (set_cols _ _ _ (off5_eq c h))
theorem oFrom_set (c : Dev nD) : (oFrom oW c).view.set = rows c :=
  (View.set_slice_whole cc0_stg3_0 _).trans (set_rows _ _ _ (off4_eq c))
theorem ownY_set (c : Dev nD) : (yW.view.slice (ownY c)).set = cols c :=
  (View.set_slice_whole cc0_scratch1 _).trans (set_cols _ _ _ (off1_eq c))
theorem ownO_set (c : Dev nD) : (oW.view.slice (ownO c)).set = rows c :=
  (View.set_slice_whole cc0_stg3_0 _).trans (set_rows _ _ _ (off2_eq c))

/-- Where the elements of these tiles lie. -/
theorem emb_oFrom (c : Dev nD) (j : S128x256.Idx) (a : Fin 2) :
    ((oFrom oW c).view.emb j a).val = (![128 * c.val, 0] : Fin 2 → ℕ) a + (j a).val :=
  (ValueKit.view_emb_slice_whole_unit_val cc0_stg3_0 (k0_off4 c) S128x256.size (k0_off4_inb c) j a).trans
    (congrArg (· + (j a).val) (congrFun (off4_eq c) a))
theorem emb_yTo (c : Dev nD) (h : Fin 31) (j : S128x256.Idx) (a : Fin 2) :
    ((yTo yW c h).view.emb j a).val = (![0, 256 * (peer c h).val] : Fin 2 → ℕ) a + (j a).val :=
  (ValueKit.view_emb_slice_whole_unit_val cc0_scratch1 (k0_off5 c (dw h)) S128x256.size (k0_off5_inb c h) j a).trans
    (congrArg (· + (j a).val) (congrFun (off5_eq c h) a))
theorem emb_ownY (c : Dev nD) (j : S128x256.Idx) (a : Fin 2) :
    ((yW.view.slice (ownY c)).emb j a).val = (![0, 256 * c.val] : Fin 2 → ℕ) a + (j a).val :=
  (ValueKit.view_emb_slice_whole_unit_val cc0_scratch1 (k0_off1 c) S128x256.size (k0_off1_inb c) j a).trans
    (congrArg (· + (j a).val) (congrFun (off1_eq c) a))
theorem emb_ownO (c : Dev nD) (j : S128x256.Idx) (a : Fin 2) :
    ((oW.view.slice (ownO c)).emb j a).val = (![128 * c.val, 0] : Fin 2 → ℕ) a + (j a).val :=
  (ValueKit.view_emb_slice_whole_unit_val cc0_stg3_0 (k0_off2 c) S128x256.size (k0_off2_inb c) j a).trans
    (congrArg (· + (j a).val) (congrFun (off2_eq c) a))

/-! ## Semaphores -/

/-- The semaphores the copies signal when they have left (`dep h`) and when they have landed (`arr p`, from `p`). -/
def dep (h : Fin 31) : DmaSem sig := ⟨6 + h.val, by have := h.isLt; show 6 + h.val < 69; omega⟩
def arr (p : Dev nD) : DmaSem sig := ⟨37 + p.val, by have hp : p.val < 32 := p.isLt; show 37 + p.val < 69; omega⟩

theorem sendSem_eq : ∀ h : Fin 31, (sendSem cc0_scratch3 h).sem = dep h := by decide +kernel
theorem recvTo_eq : ∀ c : Dev nD, (recvTo cc0_scratch4 c).sem = arr c := by decide +kernel
theorem recvAt_eq : ∀ (c : Dev nD) (h : Fin 31), (recvAt cc0_scratch4 c h).sem = arr (src c h) := by decide +kernel

/-! ## What a copy credits -/

/-- What one of the remote copies credits. -/
def N : ℕ := (oFrom oW (0 : Dev nD)).view.dmaCredit
theorem N_pos : 0 < N := View.dmaCredit_pos _ (by decide)
theorem credit_oFrom (c : Dev nD) : (oFrom oW c).view.dmaCredit = N := rfl
theorem credit_oAt (c : Dev nD) (h : Fin 31) : (oAt oW c h).view.dmaCredit = N := rfl
theorem credit_yTo (c : Dev nD) (h : Fin 31) : (yTo yW c h).view.dmaCredit = N := rfl

end Cert.KernelIdeal.Plan

end
-- ==== Proof.OnKernelIdeal.Protocol.lean ====
/-
# The protocol between the devices

Every device owns 64 cells: its barrier semaphore, a departure semaphore for each of its 31 copies and an arrival
semaphore for each device (its own is never used).

* Device `p`, on entering, signals every other device `c`'s barrier. The signal carries the band of `p`'s result that
  `c` fills: from then on `c` may copy into it.
* The copy from `c` to `p` credits `p`'s arrival semaphore of `c`, with the band filled, and `c`'s departure
  semaphore, with the band of `c`'s product that was read.

The contents are given by the devices' products `Y`.
-/
module

public import proofs.«01_k».proof.Proof.OnKernelIdeal.Places
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Plan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The protocol's cells, duties named by the device that pays them. -/
abbrev UB : Type := URounds (GSem nD τ sig) (Dev nD)
/-- The staging pipeline's cells, the protocol's, and the counters of the local copies. -/
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (UEmb.inr : UEmb (UB × Counters) UU).toEmb).trans
    (uEmb : UEmb UU (MT nD τ sig Unit (Elt F) ℕ UU ℕ)).toEmb

instance ER_landsIn : (ER (F := F)).LandsIn (upEmb : UEmb _ 𝕄) := by unfold ER; infer_instance

/-- No program is a variant of another here. -/
abbrev 𝒱₀ : Variants := Variants.none

/-! ## Cells -/

abbrev barCell (c : Dev nD) : GSem nD τ sig := ((c : Thread nD τ), .reg barS)
abbrev depCell (c : Dev nD) (h : Fin 31) : GSem nD τ sig := ((c : Thread nD τ), .dma (dep h))
abbrev arrCell (c p : Dev nD) : GSem nD τ sig := ((c : Thread nD τ), .dma (arr p))

/-- The names of a device's cells. -/
abbrev Own : Type := Unit ⊕ (Fin 31 ⊕ Dev nD)
def ownCell (c : Dev nD) : Own → GSem nD τ sig
  | .inl _ => barCell c
  | .inr (.inl h) => depCell c h
  | .inr (.inr p) => arrCell c p

theorem dep_val (h : Fin 31) : (dep h).val = 6 + h.val := rfl
theorem arr_val (p : Dev nD) : (arr p).val = 37 + p.val := rfl

/-! ## Contents -/

/-- The result's buffer, and the product's, of device `c`. -/
abbrev oL (c : Dev nD) : Loc nD τ sig := (c : Thread nD τ).loc cc0_stg3_0
abbrev yL (c : Dev nD) : Loc nD τ sig := (c : Thread nD τ).loc cc0_scratch1

/-- Where element `i` of device `c`'s result lies in the product of the device that fills it. -/
def fromY (c : Dev nD) (i : S4096x256.Idx) : S128x8192.Idx :=
  fun a => match a with
    | ⟨0, _⟩ => ⟨(i 0).val % 128, Nat.mod_lt _ (by decide)⟩
    | ⟨1, _⟩ => ⟨256 * c.val + (i 1).val, by
        have h1 : (i 1).val < 256 := (i 1).isLt
        have hc : c.val < 32 := c.isLt
        show 256 * c.val + (i 1).val < 8192; omega⟩

/-- The device that fills element `i` of a result. -/
def filler (i : S4096x256.Idx) : Dev nD :=
  ⟨(i 0).val / 128, by have h : (i 0).val < 4096 := (i 0).isLt; show _ < 32; omega⟩

/-- The products of all devices. -/
abbrev Products (F : FTy → Type) [FloatOps F] := Dev nD → S128x8192.Idx → Elt F .f32

variable (Y : Products F)

/-- Device `c`'s result. -/
def result (c : Dev nD) : S4096x256.Idx → Elt F .f32 := fun i => Y (filler i) (fromY c i)

/-- A band of a result, and of a product, with its contents. -/
def oPts (c p : Dev nD) (f : S4096x256.Idx → Elt F .f32) : sProp 𝕄 := oL c ↦[rows p]{fullShare} f
def yPts (c p : Dev nD) (f : S128x8192.Idx → Elt F .f32) : sProp 𝕄 := yL c ↦[cols p]{fullShare} f

instance oPts_storable (c p : Dev nD) (f) : BI.Storable (upEmb : UEmb _ 𝕄) (oPts (F := F) c p f) := by
  unfold oPts; infer_instance
instance yPts_storable (c p : Dev nD) (f) : BI.Storable (upEmb : UEmb _ 𝕄) (yPts (F := F) c p f) := by
  unfold yPts; infer_instance

/-! ## The schedule -/

/-- Who pays at a semaphore of device `c`: at the barrier every other device, at a departure `c` itself, at an arrival
    the device it is named after. -/
def payers (c : Dev nD) : SemLoc sig → Finset (Dev nD)
  | .reg _ => Finset.univ.erase c
  | .dma q => if q.val < 6 then ∅ else if q.val < 37 then {c} else (Finset.univ.erase c).filter fun p => q.val = 37 + p.val

/-- What is paid: a unit at the barrier, a copy's credit elsewhere. -/
def price : SemLoc sig → ℕ
  | .reg _ => 1
  | .dma _ => N

/-- The distance a departure semaphore is named after. -/
def distOf (q : DmaSem sig) : Fin 31 := ⟨(q.val - 6) % 31, Nat.mod_lt _ (by decide)⟩

/-- What a payment by `p` carries. -/
def carries (c : Dev nD) (s : SemLoc sig) (p : Dev nD) : sProp 𝕄 :=
  match s with
  | .reg _ => iprop(∃ f, oPts p c f)
  | .dma q => if q.val < 37 then yPts c (peer c (distOf q)) (Y c) else oPts c p (result Y c)

/-- The schedule: every cell has one round. -/
def sched : Rounds.Schedule (GSem nD τ sig) (Dev nD) 𝕄 where
  duties g r := if r = 0 ∧ g.1.2 = .tc then payers g.1.1 g.2 else ∅
  unitless _ := False
  amount g _ _ := price g.2
  payload g _ d := carries Y g.1.1 g.2 d
  amount_pos g _ _ _ := by
    obtain ⟨_, s⟩ := g
    cases s with
    | reg _ => exact Nat.one_pos
    | dma _ => exact N_pos

instance sched_storable (g : GSem nD τ sig) (r : ℕ) (d : Dev nD) :
    BI.Storable (upEmb : UEmb _ 𝕄) ((sched Y).payload g r d) := by
  obtain ⟨t, s⟩ := g
  show BI.Storable upEmb (carries Y t.1 s d)
  unfold carries
  cases s with
  | reg _ => dsimp only; infer_instance
  | dma q => dsimp only; split <;> infer_instance

theorem duties_zero (c : Dev nD) (s : SemLoc sig) : (sched Y).duties ((c : Thread nD τ), s) 0 = payers c s := by
  dsimp only [sched]; exact if_pos ⟨rfl, rfl⟩
theorem duties_bar (c : Dev nD) : (sched Y).duties (barCell c) 0 = Finset.univ.erase c := duties_zero Y c _
theorem duties_dep (c : Dev nD) (h : Fin 31) : (sched Y).duties (depCell c h) 0 = {c} := by
  refine (duties_zero Y c _).trans ?_
  have hh := h.isLt
  show (if 6 + h.val < 6 then _ else if 6 + h.val < 37 then _ else _) = _
  rw [if_neg (by omega), if_pos (by omega)]
theorem payers_arr (c p x : Dev nD) : x ∈ payers c (.dma (arr p)) ↔ x ≠ c ∧ p = x := by
  show x ∈ (if 37 + p.val < 6 then (∅ : Finset (Dev nD)) else if 37 + p.val < 37 then {c}
    else (Finset.univ.erase c).filter fun x => 37 + p.val = 37 + x.val) ↔ _
  rw [if_neg (by omega), if_neg (by omega), Finset.mem_filter, Finset.mem_erase]
  exact ⟨fun h => ⟨h.1.1, Fin.ext (Nat.add_left_cancel h.2)⟩, fun h => ⟨⟨h.1, Finset.mem_univ _⟩, by rw [h.2]⟩⟩
theorem duties_arr (c p : Dev nD) (hp : p ≠ c) : (sched Y).duties (arrCell c p) 0 = {p} := by
  refine (duties_zero Y c _).trans (Finset.ext fun x => ?_)
  rw [payers_arr, Finset.mem_singleton]
  exact ⟨fun h => h.2.symm, fun h => by subst h; exact ⟨hp, rfl⟩⟩
theorem duties_self (c : Dev nD) (r : ℕ) : (sched Y).duties (arrCell c c) r = ∅ := by
  by_cases hr : r = 0
  · subst hr
    refine (duties_zero Y c _).trans (Finset.eq_empty_of_forall_notMem fun x hx => ?_)
    have h := (payers_arr c c x).1 hx
    exact h.1 h.2.symm
  · exact if_neg fun h => hr h.1
theorem duties_later (g : GSem nD τ sig) : ∀ r, 1 ≤ r → (sched Y).duties g r = ∅ :=
  fun r hr => if_neg fun h => by omega

theorem expect_bar (c : Dev nD) : (sched Y).expect (barCell c) 0 = 31 := by
  unfold Schedule.expect Schedule.amountOf
  rw [duties_bar, Finset.sum_congr rfl fun _ _ => show (sched Y).amount (barCell c) 0 _ = 1 from rfl, Finset.sum_const,
    Finset.card_erase_of_mem (Finset.mem_univ _), Finset.card_univ, Fintype.card_fin, smul_eq_mul]; rfl
theorem expect_dep (c : Dev nD) (h : Fin 31) : (sched Y).expect (depCell c h) 0 = N := by
  unfold Schedule.expect Schedule.amountOf; rw [duties_dep, Finset.sum_singleton]; rfl
theorem expect_arr (c p : Dev nD) (hp : p ≠ c) : (sched Y).expect (arrCell c p) 0 = N := by
  unfold Schedule.expect Schedule.amountOf; rw [duties_arr Y c p hp, Finset.sum_singleton]; rfl

theorem payload_bar (c p : Dev nD) : (sched Y).payload (barCell c) 0 p = iprop(∃ f, oPts p c f) := rfl
theorem payload_dep (c p : Dev nD) (h : Fin 31) : (sched Y).payload (depCell c h) 0 p = yPts c (peer c h) (Y c) := by
  have hh := h.isLt
  show (if 6 + h.val < 37 then yPts c (peer c (distOf (dep h))) (Y c) else _) = _
  rw [if_pos (by omega), show distOf (dep h) = h from Fin.ext (by show (6 + h.val - 6) % 31 = h.val; omega)]
theorem payload_arr (c p : Dev nD) : (sched Y).payload (arrCell c p) 0 p = oPts c p (result Y c) := by
  show (if 37 + p.val < 37 then _ else oPts c p (result Y c)) = _
  rw [if_neg (by omega)]

theorem rest_dep (c : Dev nD) (h : Fin 31) :
    bigSep ((sched Y).duties (depCell c h) 0 \ ∅) (fun d => (sched Y).payload (depCell c h) 0 d) = yPts c (peer c h) (Y c) := by
  rw [Finset.sdiff_empty, duties_dep, bigSep_singleton, payload_dep]
theorem rest_arr (c p : Dev nD) (hp : p ≠ c) :
    bigSep ((sched Y).duties (arrCell c p) 0 \ ∅) (fun d => (sched Y).payload (arrCell c p) 0 d) = oPts c p (result Y c) := by
  rw [Finset.sdiff_empty, duties_arr Y c p hp, bigSep_singleton, payload_arr]

/-- A family over all devices: device `c`'s own and its 31 peers', counted ahead or behind. -/
theorem bigSep_peer (c : Dev nD) (Φ : Dev nD → sProp 𝕄) :
    bigSep Finset.univ Φ = iprop(Φ c ∗ bigSep Finset.univ fun h : Fin 31 => Φ (peer c h)) := by
  rw [bigSep_univ_at Φ c, ← image_peer c, bigSep_image_of_injOn ((peer_inj c).injOn)]
theorem bigSep_src (c : Dev nD) (Φ : Dev nD → sProp 𝕄) :
    bigSep Finset.univ Φ = iprop(Φ c ∗ bigSep Finset.univ fun h : Fin 31 => Φ (src c h)) := by
  rw [bigSep_univ_at Φ c, ← image_src c, bigSep_image_of_injOn ((src_inj c).injOn)]

theorem rest_bar (c : Dev nD) :
    bigSep ((sched Y).duties (barCell c) 0 \ ∅) (fun d => (sched Y).payload (barCell c) 0 d)
      = bigSep Finset.univ fun h : Fin 31 => iprop(∃ f, oPts (F := F) (peer c h) c f) := by
  rw [Finset.sdiff_empty, duties_bar, ← image_peer c, bigSep_image_of_injOn ((peer_inj c).injOn)]
  rfl

/-! ## What a device owes, and in what order it waits -/

/-- The sum of a tally over a list of distances. -/
def owedOver (f : Fin 31 → CellTallies nD τ sig Unit) : List (Fin 31) → CellTallies nD τ sig Unit
  | [] => 0
  | h :: l => owedOver f l + f h

theorem owedOver_apply (f : Fin 31 → CellTallies nD τ sig Unit) (g : GSem nD τ sig) :
    ∀ l, owedOver f l g () = (l.map fun h => f h g ()).sum
  | [] => rfl
  | h :: l => by
    show (owedOver f l + f h) g () = _
    rw [Pi.add_apply, Finsupp.add_apply, owedOver_apply f g l, List.map_cons, List.sum_cons, Nat.add_comm]

theorem owedOver_dist (f : Fin 31 → CellTallies nD τ sig Unit) (g : GSem nD τ sig) :
    owedOver f dist g () = ∑ h, f h g () := by
  rw [owedOver_apply, Fin.sum_univ_def, show dist = List.finRange 31 from by decide]

theorem owedOver_pos (f : Fin 31 → CellTallies nD τ sig Unit) (g : GSem nD τ sig) :
    ∀ l, 0 < owedOver f l g () → ∃ h, 0 < f h g ()
  | [], hp => absurd hp (Nat.lt_irrefl 0)
  | h :: l, hp => by
    change 0 < (owedOver f l + f h) g () at hp
    rw [Pi.add_apply, Finsupp.add_apply] at hp
    rcases Nat.eq_zero_or_pos (f h g ()) with h0 | h0
    · exact owedOver_pos f g l (by omega)
    · exact ⟨h, h0⟩

/-- The signal and the copy device `c` owes its peer at distance `h + 1`. -/
def sigTally (c : Dev nD) (h : Fin 31) : CellTallies nD τ sig Unit := tallyAt (barCell (peer c h)) () 1
def copyTally (c : Dev nD) (h : Fin 31) : CellTallies nD τ sig Unit := tallyAt (arrCell (peer c h) c) () N

/-- The copies still owed, and the signals still owed beside all the copies. -/
def owedCopies (c : Dev nD) (l : List (Fin 31)) : CellTallies nD τ sig Unit := owedOver (copyTally c) l
def owedAll (c : Dev nD) (l : List (Fin 31)) : CellTallies nD τ sig Unit := owedCopies c dist + owedOver (sigTally c) l

theorem owedCopies_cons (c : Dev nD) (h : Fin 31) (l) : owedCopies c (h :: l) = owedCopies c l + copyTally c h := rfl
theorem owedAll_cons (c : Dev nD) (h : Fin 31) (l) : owedAll c (h :: l) = owedAll c l + sigTally c h :=
  (add_assoc _ _ _).symm
theorem owedAll_nil (c : Dev nD) : owedAll c [] = owedCopies c dist := add_zero _

/-- The cells a level is given to, and the levels: staging, departures and local copies first, then the barrier, then
    arrivals. -/
def levelled (g : GSem nD τ sig) : Finset Unit := if g.1.2 = .tc then {()} else ∅
def level (g : GSem nD τ sig) (_ : Unit) : ℕ :=
  match g.2 with
  | .reg _ => 1
  | .dma q => if q.val < 37 then 0 else 2

theorem levelled_of_ne (g : GSem nD τ sig) (h : g.1.2 ≠ .tc) : levelled g = ∅ := if_neg h
theorem levelled_tc (c : Dev nD) (s : SemLoc sig) : levelled ((c : Thread nD τ), s) = {()} := if_pos rfl

theorem tallyAt_pos {g g' : GSem nD τ sig} {n : ℕ} (h : 0 < (tallyAt g () n : CellTallies nD τ sig Unit) g' ()) : g' = g := by
  rw [tallyAt_apply] at h
  by_contra hn
  rw [if_neg fun e => hn e.1] at h
  exact Nat.lt_irrefl 0 h

theorem owedCopies_pos {c : Dev nD} {l} {g : GSem nD τ sig} (h : 0 < owedCopies c l g ()) : ∃ k, g = arrCell (peer c k) c := by
  obtain ⟨k, hk⟩ := owedOver_pos _ _ _ h
  exact ⟨k, tallyAt_pos hk⟩
theorem owedAll_pos {c : Dev nD} {l} {g : GSem nD τ sig} (h : 0 < owedAll c l g ()) :
    ∃ k, g = arrCell (peer c k) c ∨ g = barCell (peer c k) := by
  unfold owedAll at h
  rw [Pi.add_apply, Finsupp.add_apply] at h
  rcases Nat.eq_zero_or_pos (owedCopies c dist g ()) with h0 | h0
  · obtain ⟨k, hk⟩ := owedOver_pos _ _ _ (show 0 < owedOver (sigTally c) l g () by omega)
    exact ⟨k, .inr (tallyAt_pos hk)⟩
  · obtain ⟨k, hk⟩ := owedCopies_pos h0
    exact ⟨k, .inl hk⟩

theorem level_arr (c p : Dev nD) (u : Unit) : level (arrCell c p) u = 2 := by
  show (if 37 + p.val < 37 then 0 else 2) = 2
  rw [if_neg (by omega)]

/-- A semaphore below level `b` may be waited for while what is owed lies above. -/
theorem mayWait_low (c : Dev nD) (s : SemLoc sig) (b : ℕ) (O : CellTallies nD τ sig Unit) (hs : level ((c : Thread nD τ), s) () ≤ b)
    (hO : ∀ g, 0 < O g () → g.1.2 = .tc ∧ b < level g ()) :
    (levAts levelled level : sProp 𝕄) ⊢ MayWait (c : Thread nD τ) s () O :=
  MayOwe.of_cut (L := levelled) (lev := level) b
    (fun p hp => by rw [Finset.mem_singleton.mp hp, levelled_tc]; exact Finset.mem_singleton_self _)
    (fun g u hg => by unfold levelled; rw [if_pos (hO g hg).1]; exact Finset.mem_singleton_self _)
    (fun p hp => by rw [Finset.mem_singleton.mp hp]; exact hs)
    (fun g u hg => (hO g hg).2)

/-- Staging and local copies may be waited for whatever is owed. -/
theorem mayWait_stage (c : Dev nD) (q : DmaSem sig) (hq : q.val < 37) (l) :
    (levAts levelled level : sProp 𝕄) ⊢ MayWait (c : Thread nD τ) (.dma q) () (owedAll c l) :=
  mayWait_low c _ 0 _ (by show (if q.val < 37 then 0 else 2) ≤ 0; rw [if_pos hq]) fun g hg => by
    obtain ⟨k, rfl | rfl⟩ := owedAll_pos hg
    · exact ⟨rfl, by rw [level_arr]; decide⟩
    · exact ⟨rfl, Nat.one_pos⟩

/-- The barrier may be waited for once only copies are owed. -/
theorem mayWait_bar (c : Dev nD) :
    (levAts levelled level : sProp 𝕄) ⊢ MayWait (c : Thread nD τ) (.reg barS) () (owedCopies c dist) :=
  mayWait_low c _ 1 _ (le_refl 1) fun g hg => by
    obtain ⟨k, rfl⟩ := owedCopies_pos hg
    exact ⟨rfl, by rw [level_arr]; decide⟩

/-! ## The names of the cells -/

/-- Every cell's invariant, named by `K`, and that every cell has been opened. -/
def records (K : Dev nD × Own → ℕ) : sProp 𝕄 :=
  iprop((bigSep Finset.univ fun x : Dev nD × Own => cellInv ER (sched Y) (K x) (ownCell x.1 x.2))
    ∗ bigSep Finset.univ fun x : Dev nD × Own => reached ER (ownCell x.1 x.2) 0)

instance records_persistent (K : Dev nD × Own → ℕ) : BI.Persistent (records Y K) := by unfold records; infer_instance

theorem inv_at (K : Dev nD × Own → ℕ) (c : Dev nD) (k : Own) :
    records Y K ⊢ cellInv ER (sched Y) (K (c, k)) (ownCell c k) := by
  have h : (bigSep Finset.univ fun x : Dev nD × Own => (cellInv ER (sched Y) (K x) (ownCell x.1 x.2) : sProp 𝕄))
      ⊢ cellInv ER (sched Y) (K (c, k)) (ownCell c k) := bigSep_elim (Finset.mem_univ (c, k))
  unfold records
  iintro ⟨H, -⟩
  iapply h; iexact H
theorem reached_at (K : Dev nD × Own → ℕ) (c : Dev nD) (k : Own) :
    records Y K ⊢ reached ER (ownCell c k) 0 := by
  have h : (bigSep Finset.univ fun x : Dev nD × Own => (reached ER (ownCell x.1 x.2) 0 : sProp 𝕄))
      ⊢ reached ER (ownCell c k) 0 := bigSep_elim (Finset.mem_univ (c, k))
  unfold records
  iintro ⟨-, H⟩
  iapply h; iexact H

end Cert.KernelIdeal.Plan

end
-- ==== Proof.OnKernelIdeal.Talk.lean ====
/-
# The steps that reach other devices

What each signal, copy and wait of the plan takes and gives, and the same for a whole run of them.
-/
module

public import proofs.«01_k».proof.Proof.OnKernelIdeal.Protocol

@[expose] public section

noncomputable section

namespace Cert.KernelIdeal.Plan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Program `p` on device `c` runs safely and ends in `Q`. -/
abbrev runs {α : Type} (c : Dev nD) (p : P F α) (Q : α → sProp 𝕄) : sProp 𝕄 :=
  wp frame (wpE (defs₀ (F := F)) 𝒱₀ (c : Thread nD τ) none) Set.univ p Q

/-- A weaker end, from what is left over. -/
theorem runs_end {α : Type} (c : Dev nD) (p : P F α) (Q Q' : α → sProp 𝕄) :
    iprop(runs c p Q ∗ (∀ a, Q a -∗ Q' a)) ⊢ runs c p Q' := wp_wand_r _ _ _

/-- One program after another. -/
theorem runs_then {α β : Type} (c : Dev nD) (p : P F α) (k : α → P F β) (Q : α → sProp 𝕄) (R : β → sProp 𝕄) :
    iprop(runs c p Q ∗ (∀ a, Q a -∗ runs c (k a) R)) ⊢ runs c (p >>= k) R := by
  have h := runs_end c p Q fun a => runs c (k a) R
  unfold runs at h ⊢
  rw [wp_bind]
  exact h

/-- A run of steps: each turns its own `A h` into `B h` and moves `R` on by one. -/
theorem runs_steps (c : Dev nD) (f : Fin 31 → P F PUnit) (R₀ : sProp 𝕄) [BI.Persistent R₀] (A B : Fin 31 → sProp 𝕄)
    (R : List (Fin 31) → sProp 𝕄)
    (step : ∀ h l, iprop(R₀ ∗ A h ∗ R (h :: l)) ⊢ runs c (f h) fun _ => iprop(B h ∗ R l)) :
    ∀ l : List (Fin 31), l.Nodup →
      iprop(R₀ ∗ bigSep l.toFinset A ∗ R l) ⊢ runs c (steps f l) fun _ => iprop(bigSep l.toFinset B ∗ R [])
  | [], _ => by
    rw [List.toFinset_nil, bigSep_empty, bigSep_empty]
    unfold steps runs
    rw [wp_ret]
    iintro ⟨-, -, HR⟩
    imodintro
    isplitr; · iempintro
    iexact HR
  | h :: l, hl => by
    have hn : h ∉ l.toFinset := by rw [List.mem_toFinset]; exact (List.nodup_cons.mp hl).1
    have ins (Φ : Fin 31 → sProp 𝕄) : bigSep (insert h l.toFinset) Φ = iprop(Φ h ∗ bigSep l.toFinset Φ) := bigSep_insert hn
    rw [List.toFinset_cons, ins, ins]
    show _ ⊢ runs c (f h >>= fun _ => steps f l) _
    iintro ⟨#H0, ⟨HA, HAs⟩, HR⟩
    iapply (runs_then c (f h) (fun _ => steps f l) (fun _ => iprop(B h ∗ R l)))
    isplitl [HA HR]
    · iapply (step h l)
      isplitr; · iexact H0
      isplitl [HA] <;> iassumption
    iintro %_ ⟨HB, HR⟩
    iapply (runs_end c (steps f l) (fun _ => iprop(bigSep l.toFinset B ∗ R [])))
    isplitl [HAs HR]
    · iapply (runs_steps c f R₀ A B R step l (List.nodup_cons.mp hl).2)
      isplitr; · iexact H0
      isplitl [HAs] <;> iassumption
    iintro %_ ⟨HBs, HR⟩
    isplitr [HR]
    · isplitl [HB] <;> iassumption
    iexact HR

theorem dist_nodup : dist.Nodup := by decide
theorem dist_univ : dist.toFinset = Finset.univ := by decide

/-- A run of steps over all distances. -/
theorem runs_dist (c : Dev nD) (f : Fin 31 → P F PUnit) (R₀ : sProp 𝕄) [BI.Persistent R₀] (A B : Fin 31 → sProp 𝕄)
    (R : List (Fin 31) → sProp 𝕄)
    (step : ∀ h l, iprop(R₀ ∗ A h ∗ R (h :: l)) ⊢ runs c (f h) fun _ => iprop(B h ∗ R l)) :
    iprop(R₀ ∗ bigSep Finset.univ A ∗ R dist) ⊢ runs c (steps f dist) fun _ => iprop(bigSep Finset.univ B ∗ R []) := by
  rw [← dist_univ]
  exact runs_steps c f R₀ A B R step dist dist_nodup

/-- What device `c` owes, whatever it has waited for. -/
def owing (c : Dev nD) (O : CellTallies nD τ sig Unit) : sProp 𝕄 := iprop(∃ W, owes (c : Thread nD τ) O W)

variable (Y : Products F) (K : Dev nD × Own → ℕ)

/-! ## Signals -/

/-- The signal to a peer: the band of the result it fills goes with it. -/
theorem signal_step (c : Dev nD) (h : Fin 31) (l) :
    iprop(records Y K ∗ (dutyTok ER (barCell (peer c h)) 0 c ∗ ∃ f, oPts (F := F) c (peer c h) f) ∗ owing c (owedAll c (h :: l)))
      ⊢ runs c (signalStep (peer c h)) fun _ => iprop(emp ∗ owing c (owedAll c l)) := by
  unfold signalStep runs owing
  simp only [semSignalWord, Prog.lift]
  rw [owedAll_cons]
  iintro ⟨#HK, ⟨Htok, Hpay⟩, ⟨%W, HO⟩⟩
  iapply (Rounds.wp_signal 𝒱₀ ER (sched Y) (c : Thread nD τ) none (dst := (peer c h : Thread nD τ)) (κ := K (peer c h, .inl ()))
      (d := c) (by rw [duties_bar]; exact Finset.mem_erase.mpr ⟨(peer_ne c h).symm, Finset.mem_univ _⟩)
      (show (sched Y).amount _ 0 c = _ from rfl) () (owedAll c l) rfl) $$ [Htok Hpay HO]
  · isplitr; · iapply (inv_at Y K (peer c h) (.inl ())); iexact HK
    isplitl [HO]; · iexact HO
    isplitl [Htok]; · iexact Htok
    isplitl [Hpay]; · rw [payload_bar]; iexact Hpay
    iapply (reached_at Y K (peer c h) (.inl ())); iexact HK
  iintro HO
  rw [wp_ret]; imodintro
  isplitr; · iempintro
  iexists W; iexact HO

/-! ## Waits -/

/-- The wait for a DMA cell of `c` whose one round brings `N` and the payload `D`; the cell is closed with it. -/
theorem await (c : Dev nD) (k : Own) (s s' : DmaSem sig) (hs : s' = s) (hk : ownCell c k = ((c : Thread nD τ), .dma s)) (D : sProp 𝕄)
    (hexp : (sched Y).expect ((c : Thread nD τ), .dma s) 0 = N)
    (hrest : bigSep ((sched Y).duties ((c : Thread nD τ), .dma s) 0 \ ∅) (fun d => (sched Y).payload ((c : Thread nD τ), .dma s) 0 d) = D)
    {sp sp' : Space} {sh sh' : Shape} {e e' : EltTy} {srcw : Memref sig .tc sp' sh' e'} {dstw : Memref sig .tc sp sh e}
    {hsrc : srcw.view.WordExact} {hdst : dstw.view.WordExact} (hN : dstw.view.dmaCredit = N) :
    iprop(records Y K ∗ (cred (tallyAt ((c : Thread nD τ), .dma s) () N) ∗ atPos ER ((c : Thread nD τ), .dma s) 0 ∅ 0) ∗ owing c 0)
      ⊢ runs c (Prog.lift (.waitDma2 s' srcw dstw hsrc hdst)) fun _ => iprop((D ∗ semVal ((c : Thread nD τ), .dma s) 0) ∗ owing (F := F) c 0) := by
  subst hs
  unfold runs owing
  simp only [Prog.lift]
  iintro ⟨#HK, ⟨Hc, Hat⟩, ⟨%W, HO⟩⟩
  ihave #HI := (inv_at Y K c k) $$ HK
  rw [hk]
  iapply (Rounds.wp_wait_rest_token 𝒱₀ ER (sched Y) (c : Thread nD τ) none (κ := K (c, k))
      (wpE_waitDma2_eq 𝒱₀ (c : Thread nD τ) none Set.univ) (Set.mem_univ _) () (O := 0) (W := W) (R := 0) (m := 0) (T := ∅)
      (by rw [Nat.zero_add, hexp]; exact hN)) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  imod (Rounds.cell_close ER (sched Y) (Set.mem_univ (K (c, k))) (fun h => h) (R := 0 + 1) (duties_later Y _)) $$ [Hat] with Hz
  · isplitr; · iexact HI
    iexact Hat
  rw [wp_ret]; imodintro
  isplitl [Hpay Hz]
  · isplitl [Hpay]; · rw [← hrest]; iexact Hpay
    iexact Hz
  iexists _; iexact HO

/-- The wait for what the peer at distance `h + 1` behind sends: the band it fills. -/
theorem recv_step (c : Dev nD) (h : Fin 31) :
    iprop(records Y K ∗ (cred (tallyAt (arrCell c (src c h)) () N) ∗ atPos ER (arrCell c (src c h)) 0 ∅ 0) ∗ owing c 0)
      ⊢ runs c (recvStep oW yW cc0_scratch4 c h) fun _ =>
          iprop((oPts c (src c h) (result Y c) ∗ semVal (arrCell c (src c h)) 0) ∗ owing (F := F) c 0) :=
  await Y K c (.inr (.inr (src c h))) (arr (src c h)) _ (recvAt_eq c h) rfl _ (expect_arr Y c _ (src_ne c h)) (rest_arr Y c _ (src_ne c h))
    (credit_oAt c h)

/-- The wait for the copy at distance `h + 1` to have left: the band of the product it read. -/
theorem sent_step (c : Dev nD) (h : Fin 31) :
    iprop(records Y K ∗ (cred (tallyAt (depCell c h) () N) ∗ atPos ER (depCell c h) 0 ∅ 0) ∗ owing c 0)
      ⊢ runs c (sentStep oW yW cc0_scratch3 c h) fun _ =>
          iprop((yPts c (peer c h) (Y c) ∗ semVal (depCell c h) 0) ∗ owing (F := F) c 0) :=
  await Y K c (.inr (.inl h)) (dep h) _ (sendSem_eq h) rfl _ (expect_dep Y c h) (rest_dep Y c h) (credit_yTo c h)

/-- The wait on the barrier: from every peer the band of its result that `c` fills; the cell is closed with it. -/
theorem bar_step (c : Dev nD) :
    iprop(records Y K ∗ levAts levelled level ∗ cred (tallyAt (barCell c) () 31) ∗ atPos ER (barCell c) 0 ∅ 0 ∗ owing c (owedCopies c dist))
      ⊢ runs c (semWaitWord barS 31#32) fun _ =>
          iprop((bigSep Finset.univ fun h : Fin 31 => iprop(∃ f, oPts (F := F) (peer c h) c f)) ∗ semVal (barCell c) 0
            ∗ owing c (owedCopies c dist)) := by
  unfold runs owing
  simp only [semWaitWord, Prog.lift]
  iintro ⟨#HK, #Hlev, Hc, Hat, ⟨%W, HO⟩⟩
  ihave #HI := (inv_at Y K c (.inl ())) $$ HK
  iapply (Rounds.wp_wait_rest_token 𝒱₀ ER (sched Y) (c : Thread nD τ) none (κ := K (c, .inl ()))
      (wpE_semWait_eq 𝒱₀ (c : Thread nD τ) none Set.univ) (Set.mem_univ _) () (O := owedCopies c dist) (W := W) (R := 0) (m := 0) (T := ∅)
      (by rw [expect_bar]; decide)) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  imod (Rounds.cell_close ER (sched Y) (Set.mem_univ (K (c, .inl ()))) (fun h => h) (R := 0 + 1) (duties_later Y _)) $$ [Hat] with Hz
  · isplitr; · iexact HI
    iexact Hat
  rw [wp_ret]; imodintro
  isplitl [Hpay]; · rw [← rest_bar Y c]; iexact Hpay
  isplitl [Hz]; · iexact Hz
  iexists _; iexact HO

/-! ## Copies -/

/-- What a copy of device `c`'s band for `p` leaves in `p`'s result: the band `c` fills of it. -/
theorem copied (c : Dev nD) (h : Fin 31) (fd : S4096x256.Idx → Elt F .f32) (i : S4096x256.Idx) (hi : i ∈ rows c) :
    (oFrom oW c).view.write (Elt F) fd ((yTo yW c h).view.read (Elt F) (Y c)) Finset.univ i = result Y (peer c h) i := by
  rw [← oFrom_set c] at hi
  obtain ⟨j, -, rfl⟩ := Finset.mem_map.mp hi
  rw [View.write_emb_of_mem _ _ (Finset.mem_univ j), View.read_apply]
  unfold result
  have h0 : ((oFrom oW c).view.emb j 0).val = 128 * c.val + (j 0).val := emb_oFrom c j 0
  have h1 : ((oFrom oW c).view.emb j 1).val = (j 1).val := (emb_oFrom c j 1).trans (Nat.zero_add _)
  have hj0 : (j 0).val < 128 := (j 0).isLt
  have hc : filler ((oFrom oW c).view.emb j) = c := Fin.ext (by show (_ : ℕ) / 128 = _; rw [h0]; omega)
  rw [hc]
  refine congrArg (Y c) (funext fun a => Fin.ext ((emb_yTo c h j a).trans ?_))
  fin_cases a
  · show 0 + (j 0).val = ((oFrom oW c).view.emb j 0).val % 128
    rw [h0]; omega
  · show 256 * (peer c h).val + (j 1).val = 256 * (peer c h).val + ((oFrom oW c).view.emb j 1).val
    rw [h1]

/-- The copy to the peer at distance `h + 1`. -/
theorem send_step (c : Dev nD) (h : Fin 31) (l) :
    iprop(records Y K ∗ (yPts c (peer c h) (Y c) ∗ (∃ f, oPts (peer c h) c f) ∗ dutyTok ER (depCell c h) 0 c
        ∗ dutyTok ER (arrCell (peer c h) c) 0 c) ∗ owing c (owedCopies c (h :: l)))
      ⊢ runs c (sendStep oW yW cc0_scratch3 cc0_scratch4 c (peer c h) h) fun _ =>
          iprop(cred (tallyAt (depCell c h) () N) ∗ owing (F := F) c (owedCopies c l)) := by
  have main : ∀ (s₁ s₂ : DmaSem sig) (_ : s₁ = dep h) (_ : s₂ = arr c)
      {hsc : (oFrom oW c).view.ref.isScScratch = false} {hsrc : (yTo yW c h).view.WordExact} {hdst : (oFrom oW c).view.WordExact}
      {hsem : DmaTarget.Typed .vmem (.dma s₂) (.remote (Dev.tc (peer c h) : Thread nD τ) (oFrom oW c) (.dma s₁) hsc)},
      iprop(records Y K ∗ (yPts c (peer c h) (Y c) ∗ (∃ f, oPts (peer c h) c f) ∗ dutyTok ER (depCell c h) 0 c
        ∗ dutyTok ER (arrCell (peer c h) c) 0 c) ∗ owing c (owedCopies c (h :: l)))
      ⊢ runs c (Prog.lift (.enqueueDma (yTo yW c h) (.remote (Dev.tc (peer c h) : Thread nD τ) (oFrom oW c) (.dma s₁) hsc) (.dma s₂) hsrc hdst hsem)) fun _ =>
          iprop(cred (tallyAt (depCell c h) () N) ∗ owing (F := F) c (owedCopies c l)) := by
    intro s₁ s₂ h₁ h₂ hsc hsrc hdst hsem
    subst h₁ h₂
    unfold runs owing
    simp only [Prog.lift]
    rw [owedCopies_cons]
    iintro ⟨#HK, ⟨Hy, ⟨%f, Ho⟩, Ht₁, Ht₂⟩, ⟨%W, HO⟩⟩
    iapply (Rounds.wp_send_pointsTo 𝒱₀ ER (sched Y) (c : Thread nD τ) none (κ₁ := K (c, .inr (.inl h))) (κ₂ := K (peer c h, .inr (.inr c)))
      (r₁ := 0) (r₂ := 0) (d₁ := c) (d₂ := c) (fs := Y c) (fd := f)
      (by rw [duties_dep]; exact Finset.mem_singleton_self _)
      (by rw [duties_arr Y _ _ (peer_ne c h).symm]; exact Finset.mem_singleton_self _)
      () () N rfl rfl rfl (owedCopies c l) rfl (W := W)
      (by rw [payload_dep, yTo_set]; exact BI.Entails.refl _)
      (by rw [payload_arr, oFrom_set]; exact Entails.of_eq (pointsTo_congr fun i hi => copied Y c h f i hi)))
      $$ [Hy Ho Ht₁ Ht₂ HO]
    · isplitr; · iapply (inv_at Y K c (.inr (.inl h))); iexact HK
      isplitr; · iapply (inv_at Y K (peer c h) (.inr (.inr c))); iexact HK
      isplitl [Hy]; · rw [yTo_set]; unfold yPts; iexact Hy
      isplitl [Ho]; · rw [oFrom_set]; unfold oPts; iexact Ho
      isplitl [HO]; · iexact HO
      isplitl [Ht₁]; · iexact Ht₁
      isplitr; · iapply (reached_at Y K c (.inr (.inl h))); iexact HK
      isplitl [Ht₂]; · iexact Ht₂
      iapply (reached_at Y K (peer c h) (.inr (.inr c))); iexact HK
    iintro ⟨Hc, HO⟩
    rw [wp_ret]; imodintro
    isplitl [Hc]; · iexact Hc
    iexists W; iexact HO
  exact main _ _ (sendSem_eq h) (recvTo_eq c)

end Cert.KernelIdeal.Plan

end
-- ==== Proof.OnKernelIdeal.Product.lean ====
/-
# The product

Sixteen chunks of 512 columns of the right operand are copied one after another into the two slots of a buffer and read
from there. Chunk `i` of the product `y` is the payload of the printed body at what the copy brought; when all sixteen
are done `y` is `prodOf`.
-/
module

public import proofs.«01_k».proof.Proof.OnKernelIdeal.Talk
public import Idealize.ShloMosaic.Lib.ValueLayout

@[expose] public section

noncomputable section

namespace Cert.KernelIdeal.Plan

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-! ## Values -/

/-- Columns `512 i` to `512 i + 511` of the right operand, as they lie in a slot. -/
def chunk (w : S4096x8192.Idx → Elt F .f32) (i : Fin 16) : Vec F S1x4096x512 .f32 := fun j =>
  w (ix2 (j 1) ⟨512 * i.val + (j 2).val, by
    have h : (j 2).val < 512 := (j 2).isLt
    have := i.isLt
    omega⟩)

/-- The product: each of its columns lies in one chunk. -/
def prodOf (a : F .f32) (x : FVec F S128x4096 .bf16) (w : S4096x8192.Idx → Elt F .f32) : S128x8192.Idx → Elt F .f32 := fun j =>
  k0_pay3 a x (chunk w ⟨(j 1).val / 512, by have h : (j 1).val < 8192 := (j 1).isLt; omega⟩)
    (ix2 (j 0) ⟨(j 1).val % 512, Nat.mod_lt _ (by decide)⟩)

/-! ## Places -/

/-- The right operand and the buffer of device `c`. -/
abbrev wL (c : Dev nD) : Loc nD τ sig := (c : Thread nD τ).loc main_arg1
abbrev bL (c : Dev nD) : Loc nD τ sig := (c : Thread nD τ).loc cc0_scratch0

/-- The elements of a slot, and a slot's cell. -/
def slot (s : Fin 2) : Finset S2x4096x512.Idx := (slotAt bufW s).view.set
abbrev copySem (s : Fin 2) : DmaSem sig := (semAt cc0_scratch2 s).sem
theorem copySem_val : ∀ s : Fin 2, (copySem s).val = 4 + s.val := by decide

/-- The share of the right operand a slot's copies read with. -/
def shareOf : Fin 2 → PosShare TreeShare
  | 0 => fullShare.left
  | 1 => fullShare.right

/-- A slot's rectangle, as loaded. -/
abbrev slotRect (s : Fin 2) : Rect S2x4096x512 := Rect.unit (s := S2x4096x512) ![s.val, 0, 0] S1x4096x512.size (inb_slot s)

theorem slot_eq (s : Fin 2) : slot s = (slotRect s).set :=
  (View.set_reshape _ _).trans (View.set_slice_whole cc0_scratch0 _)

theorem mem_slot (s : Fin 2) (i : S2x4096x512.Idx) : i ∈ slot s ↔ (i 0).val = s.val := by
  rw [slot_eq, Rect.mem_set_unit]
  have h1 : (i 1).val < 4096 := (i 1).isLt
  have h2 : (i 2).val < 512 := (i 2).isLt
  constructor
  · intro h
    have h0 : s.val ≤ (i 0).val ∧ (i 0).val < s.val + 1 := h 0
    omega
  · intro h a
    fin_cases a
    · show s.val ≤ (i 0).val ∧ (i 0).val < s.val + 1; omega
    · show 0 ≤ (i 1).val ∧ (i 1).val < 0 + 4096; omega
    · show 0 ≤ (i 2).val ∧ (i 2).val < 0 + 512; omega

theorem slot_disjoint : Disjoint (slot 0) (slot 1) :=
  Finset.disjoint_left.mpr fun i h h' => by
    rw [mem_slot] at h h'
    have := h.symm.trans h'
    exact absurd this (by decide)

theorem slot_cover : slot 0 ∪ slot 1 = Finset.univ := by
  refine Finset.eq_univ_of_forall fun i => ?_
  rw [Finset.mem_union, mem_slot, mem_slot]
  have h : (i 0).val < 2 := (i 0).isLt
  show (i 0).val = 0 ∨ (i 0).val = 1
  omega

/-- What the load of a slot reads once `t` was copied there. -/
theorem slot_read (s : Fin 2) (g : S2x4096x512.Idx → Elt F .f32) (t : Vec F S4096x512 .f32) :
    (bufW.access (slotRect s)).read (Elt F) ((slotAt bufW s).view.write (Elt F) g t Finset.univ) =
      fun j : S1x4096x512.Idx => t (ix2 (j 1) (j 2)) := by
  funext j
  have h := congrFun (View.read_write_univ (Val := Elt F) (v := (slotAt bufW s).view) g t) (ix2 (j 1) (j 2))
  rw [← h]
  have hj : Shape.reshapeEquiv (squeezes_S1x4096x512_S4096x512.numel_eq) (ix2 (j 1) (j 2)) = j :=
    (reshapeEquiv_ix2_1ab _ (j 1) (j 2)).trans (funext fun a => by
      fin_cases a
      · exact Fin.ext (by
          have h : (j 0).val < 1 := (j 0).isLt
          show 0 = (j 0).val
          omega)
      · rfl
      · rfl)
  exact congrArg (fun k => (bufW.access (slotRect s)).read (Elt F) ((slotAt bufW s).view.write (Elt F) g t Finset.univ) k) hj.symm

/-- What chunk `i`'s copy reads. -/
theorem wAt_read (w : S4096x8192.Idx → Elt F .f32) (i : Fin 16) :
    (fun j : S1x4096x512.Idx => (wAt wW i).view.read (Elt F) w (ix2 (j 1) (j 2))) = chunk w i := by
  funext j
  refine congrArg w (funext fun a => Fin.ext
    ((ValueKit.view_emb_slice_whole_unit_val main_arg1 ![0, 512 * i.val] S4096x512.size (inb_w i) (ix2 (j 1) (j 2)) a).trans ?_))
  fin_cases a
  · exact Nat.zero_add _
  · rfl

/-- The columns a chunk of `y` is stored at. -/
theorem emb_yCols (i : Fin 16) (j : S128x512.Idx) (a : Fin 2) :
    ((yW.view.slice (yCols i)).emb j a).val = (![0, 512 * i.val] : Fin 2 → ℕ) a + (j a).val :=
  ValueKit.view_emb_slice_whole_unit_val cc0_scratch1 ![0, 512 * i.val] S128x512.size (inb_y i) j a

/-- With chunk `i` stored, `y` agrees with the product on one chunk more. -/
theorem put_value (a : F .f32) (x : FVec F S128x4096 .bf16) (w : S4096x8192.Idx → Elt F .f32) (i : Fin 16)
    (f : S128x8192.Idx → Elt F .f32) (hf : ∀ j, (j 1).val < 512 * i.val → f j = prodOf a x w j) :
    ∀ j, (j 1).val < 512 * (i.val + 1) →
      (yW.view.slice (yCols i)).write (Elt F) f (k0_pay3 a x (chunk w i)) Finset.univ j = prodOf a x w j := by
  intro j hj
  by_cases hlt : (j 1).val < 512 * i.val
  · rw [View.write_of_not_mem, hf j hlt]
    intro hm
    rw [View.setOn_univ] at hm
    obtain ⟨k, -, rfl⟩ := Finset.mem_map.mp hm
    have h1 : ((yW.view.slice (yCols i)).emb k 1).val = 512 * i.val + (k 1).val := emb_yCols i k 1
    omega
  · have hjd : (j 1).val / 512 = i.val := by omega
    have hemb : (yW.view.slice (yCols i)).emb (ix2 (j 0) ⟨(j 1).val % 512, Nat.mod_lt _ (by decide)⟩ : S128x512.Idx) = j := by
      funext b
      refine Fin.ext ((emb_yCols i _ b).trans ?_)
      fin_cases b
      · exact Nat.zero_add _
      · show 512 * i.val + (j 1).val % 512 = (j 1).val
        omega
    have hw := View.write_emb_of_mem (Val := Elt F) (v := yW.view.slice (yCols i)) f (k0_pay3 a x (chunk w i))
      (Finset.mem_univ (ix2 (j 0) ⟨(j 1).val % 512, Nat.mod_lt _ (by decide)⟩ : S128x512.Idx))
    rw [hemb] at hw
    rw [hw]
    unfold prodOf
    have hi : (⟨(j 1).val / 512, by have h : (j 1).val < 8192 := (j 1).isLt; omega⟩ : Fin 16) = i := Fin.ext hjd
    rw [hi]
    rfl

/-! ## States -/

variable (w : S4096x8192.Idx → Elt F .f32) (c : Dev nD)

/-- A slot with nothing under way. -/
def idle (s : Fin 2) : sProp 𝕄 :=
  iprop((wL c ↦{shareOf s} w) ∗ (∃ f, bL c ↦[slot s]{fullShare} f) ∗ semVal ((c : Thread nD τ), SemLoc.dma (copySem s)) 0)

/-- A slot with chunk `i` under way. -/
def flying (s : Fin 2) (i : Fin 16) : sProp 𝕄 :=
  iprop((∃ f, Flight countersEmb (c : Thread nD τ) (.dma (copySem s)) () (slotAt bufW s).view.dmaCredit
      iprop((bL c ↦[slot s]{fullShare} ((slotAt bufW s).view.write (Elt F) f ((wAt wW i).view.read (Elt F) w) Finset.univ))
        ∗ (wL c ↦[(wAt wW i).view.set]{shareOf s} w)))
    ∗ (wL c ↦[Finset.univ \ (wAt wW i).view.set]{shareOf s} w))

variable (a : F .f32) (x : FVec F S128x4096 .bf16)

/-- `y` agrees with the product on its first `n` chunks. -/
def yUpTo (n : ℕ) : sProp 𝕄 :=
  iprop(∃ f, ⌜∀ j, (j 1).val < 512 * n → f j = prodOf a x w j⌝ ∗ yL c ↦{fullShare} f)

/-! ## Steps -/

/-- The start of a chunk's copy. -/
theorem start_step (i : Fin 16) (s : Fin 2) :
    idle w c s ⊢ runs c (startChunk wW bufW cc0_scratch2 i s) fun _ => flying w c s i := by
  unfold startChunk runs idle flying
  simp only [Prog.lift]
  iintro ⟨Hw, ⟨%f, Hb⟩, Hv⟩
  ihave Hw := (pointsTo_split_subset (ℓ := wL c) (S := Finset.univ) (I := (wAt wW i).view.set) (Finset.subset_univ _)).1 $$ Hw
  icases Hw with ⟨Hw, Hrest⟩
  iapply (Transfers.wp_dmaLocal countersEmb 𝒱₀ (c : Thread nD τ) none (fs := w) (fd := f) (q := shareOf s) (Sd := slot s) ()
    (slotAt bufW s).view.dmaCredit rfl (View.dmaCredit_pos _ (by decide)) (Finset.Subset.refl _)) $$ [Hw Hb Hv]
  · isplitl [Hw]; · iexact Hw
    isplitl [Hb]; · iexact Hb
    iexact Hv
  iintro HF
  rw [wp_ret]; imodintro
  isplitl [HF]
  · iexists f; iexact HF
  iexact Hrest

/-- The wait for a chunk's copy and the load of its slot. -/
theorem take_step (i : Fin 16) (s : Fin 2) :
    iprop(levAts levelled level ∗ flying w c s i ∗ owing c (owedCopies c dist))
      ⊢ runs c (takeChunk wW bufW cc0_scratch2 i s) fun v => iprop(⌜v = chunk w i⌝ ∗ idle w c s ∗ owing c (owedCopies c dist)) := by
  unfold takeChunk runs idle flying owing
  simp only [Prog.lift]
  iintro ⟨#HL, ⟨⟨%f, HF⟩, Hrest⟩, ⟨%W, HO⟩⟩
  rw [wp_bind]
  have hmw : levAts levelled level ⊢ (MayWait (c : Thread nD τ) (.dma (copySem s)) () (owedCopies c dist) : sProp 𝕄) :=
    owedAll_nil c ▸ mayWait_stage c (copySem s) (by rw [copySem_val]; have := s.isLt; omega) []
  iapply (Transfers.wp_waitLocalO countersEmb 𝒱₀ (c : Thread nD τ) none () rfl) $$ [HF HO]
  · isplitl [HF]; · iexact HF
    isplitl [HO]; · iexact HO
    iapply hmw; iexact HL
  iintro ⟨⟨Hb, Hw⟩, Hv, HO⟩
  rw [wp_ret]; imodintro
  ihave Hw := (pointsTo_split_subset (ℓ := wL c) (S := Finset.univ) (I := (wAt wW i).view.set) (Finset.subset_univ _)).2 $$ [Hw Hrest]
  · isplitl [Hw] <;> iassumption
  iapply (wp_load_rect 𝒱₀ (c : Thread nD τ) none Set.univ (m := bufW) (r := slotRect s) (S := slot s) (q := fullShare)
    (by rw [slot_eq]; exact (View.set_slice_whole cc0_scratch0 _).le)) $$ [Hb]
  · iexact Hb
  iintro Hb
  rw [wp_ret]; imodintro
  isplitr
  · ipureintro
    exact (slot_read s f _).trans (wAt_read w i)
  isplitr [HO]
  · isplitl [Hw]; · iexact Hw
    isplitl [Hb]; · iexists _; iexact Hb
    iexact Hv
  iexists _; iexact HO

/-- The store of a chunk's part of `y`. -/
theorem put_step (i : Fin 16) :
    yUpTo w c a x i.val ⊢ runs c (putChunk yW i (k0_pay3 a x (chunk w i))) fun _ => yUpTo w c a x (i.val + 1) := by
  unfold putChunk runs yUpTo
  simp only [Prog.lift]
  iintro ⟨%f, %hf, Hy⟩
  rw [wp_bind]
  iapply (wp_load 𝒱₀ (c : Thread nD τ) none Set.univ (m := yW) (S := Finset.univ) (q := fullShare) (f := f)
    (Finset.subset_univ _)) $$ [Hy]
  · iexact Hy
  iintro Hy
  rw [wp_ret]; imodintro
  iapply (wp_store 𝒱₀ (c : Thread nD τ) none Set.univ (m := yW) (r := yCols i) (S := Finset.univ) (f := f)
    (Finset.subset_univ _)) $$ [Hy]
  · iexact Hy
  iintro Hy
  rw [wp_ret]; imodintro
  iexists _
  isplitr
  · ipureintro; exact put_value a x w i f hf
  iexact Hy

/-- What a chunk of the product leaves alone or puts back. -/
def during (n : ℕ) : sProp 𝕄 :=
  iprop(levAts levelled level ∗ yUpTo w c a x n ∗ owing c (owedCopies c dist))

/-- A chunk, the next one of its slot started. -/
theorem next_step (s : Fin 2) (i j : Fin 16) :
    iprop(flying w c s i ∗ during w c a x i.val)
      ⊢ runs c (chunkNext wW bufW yW cc0_scratch2 a x s i j) fun _ => iprop(flying w c s j ∗ during w c a x (i.val + 1)) := by
  unfold chunkNext during
  iintro ⟨HF, #HL, HY, HO⟩
  iapply (runs_then c (takeChunk wW bufW cc0_scratch2 i s) _ (fun v => iprop(⌜v = chunk w i⌝ ∗ idle w c s ∗ owing c (owedCopies c dist))))
  isplitl [HF HO]
  · iapply (take_step w c i s)
    isplitr; · iexact HL
    isplitl [HF] <;> iassumption
  iintro %v ⟨%hv, HI, HO⟩
  subst hv
  iapply (runs_then c (startChunk wW bufW cc0_scratch2 j s) _ (fun _ => flying w c s j))
  isplitl [HI]
  · iapply (start_step w c j s); iexact HI
  iintro %_ HF
  iapply (runs_end c (putChunk yW i _) (fun _ => yUpTo w c a x (i.val + 1)))
  isplitl [HY]
  · iapply (put_step w c a x i); iexact HY
  iintro %_ HY
  isplitl [HF]; · iexact HF
  isplitr; · iexact HL
  isplitl [HY] <;> iassumption

/-- A chunk, nothing started. -/
theorem last_step (s : Fin 2) (i : Fin 16) :
    iprop(flying w c s i ∗ during w c a x i.val)
      ⊢ runs c (chunkLast wW bufW yW cc0_scratch2 a x s i) fun _ => iprop(idle w c s ∗ during w c a x (i.val + 1)) := by
  unfold chunkLast during
  iintro ⟨HF, #HL, HY, HO⟩
  iapply (runs_then c (takeChunk wW bufW cc0_scratch2 i s) _ (fun v => iprop(⌜v = chunk w i⌝ ∗ idle w c s ∗ owing c (owedCopies c dist))))
  isplitl [HF HO]
  · iapply (take_step w c i s)
    isplitr; · iexact HL
    isplitl [HF] <;> iassumption
  iintro %v ⟨%hv, HI, HO⟩
  subst hv
  iapply (runs_end c (putChunk yW i _) (fun _ => yUpTo w c a x (i.val + 1)))
  isplitl [HY]
  · iapply (put_step w c a x i); iexact HY
  iintro %_ HY
  isplitl [HI]; · iexact HI
  isplitr; · iexact HL
  isplitl [HY] <;> iassumption

/-! ## The chain -/

/-- A step that turns `P` into `P'` beside `R` and `S`, before the rest. -/
theorem before (p : P F PUnit) (k : P F PUnit) (A B R S : sProp 𝕄) (T : PUnit → sProp 𝕄)
    (hp : A ⊢ runs c p fun _ => B) (hk : iprop(R ∗ B) ⊢ runs c k T) (hs : S ⊢ iprop(R ∗ A)) :
    S ⊢ runs c (p >>= fun _ => k) T := by
  have h : iprop(R ∗ A) ⊢ runs c (p >>= fun _ => k) T := by
    iintro ⟨HR, HA⟩
    iapply (runs_then c p (fun _ => k) (fun _ => B))
    isplitl [HA]
    · iapply hp; iexact HA
    iintro %_ HB
    iapply hk
    isplitl [HR] <;> iassumption
  exact hs.trans h

/-- Both slots under way with chunks `i` and `j`, `n` chunks done. -/
def both (i j : Fin 16) (n : ℕ) : sProp 𝕄 := iprop(flying w c 0 i ∗ flying w c 1 j ∗ during w c a x n)

/-- A chunk in slot 0, and in slot 1, before the rest. -/
theorem even (i i' j : Fin 16) (k : P F PUnit) (T : PUnit → sProp 𝕄) (hk : both w c a x i' j (i.val + 1) ⊢ runs c k T) :
    both w c a x i j i.val ⊢ runs c (chunkNext wW bufW yW cc0_scratch2 a x 0 i i' >>= fun _ => k) T := by
  refine before c _ k _ _ (flying w c 1 j) _ T (next_step w c a x 0 i i') (BIBase.Entails.trans ?_ hk) ?_
  · unfold both
    iintro ⟨H1, H0, HD⟩
    isplitl [H0]; · iexact H0
    isplitl [H1] <;> iassumption
  · unfold both
    iintro ⟨H0, H1, HD⟩
    isplitl [H1]; · iexact H1
    isplitl [H0] <;> iassumption

theorem odd (i i' j : Fin 16) (k : P F PUnit) (T : PUnit → sProp 𝕄) (hk : both w c a x j i' (i.val + 1) ⊢ runs c k T) :
    both w c a x j i i.val ⊢ runs c (chunkNext wW bufW yW cc0_scratch2 a x 1 i i' >>= fun _ => k) T := by
  refine before c _ k _ _ (flying w c 0 j) _ T (next_step w c a x 1 i i') (BIBase.Entails.trans ?_ hk) ?_
  · unfold both
    iintro ⟨H0, H1, HD⟩
    isplitl [H0]; · iexact H0
    isplitl [H1] <;> iassumption
  · unfold both
    iintro ⟨H0, H1, HD⟩
    isplitl [H0]; · iexact H0
    isplitl [H1] <;> iassumption

/-- The product: `y` ends as `prodOf`, the slots and the right operand as they were. -/
theorem product_runs :
    iprop(idle w c 0 ∗ idle w c 1 ∗ during w c a x 0)
      ⊢ runs c (product wW bufW yW cc0_scratch2 a x) fun _ => iprop(idle w c 0 ∗ idle w c 1 ∗ during w c a x 16) := by
  unfold product
  refine before c _ _ _ _ iprop(idle w c 1 ∗ during w c a x 0) _ _ (start_step w c 0 0) ?_ ?_
  case refine_2 =>
    iintro ⟨H0, H⟩
    isplitl [H] <;> iassumption
  refine before c _ _ _ _ iprop(flying w c 0 0 ∗ during w c a x 0) _ _ (start_step w c 1 1) ?_ ?_
  case refine_2 =>
    iintro ⟨⟨H1, HD⟩, H0⟩
    isplitl [H0 HD]
    · isplitl [H0] <;> iassumption
    iexact H1
  have chain : both w c a x 0 1 0 ⊢ runs c _ fun _ => iprop(idle w c 0 ∗ idle w c 1 ∗ during w c a x 16) :=
    even w c a x 0 2 1 _ _ <| odd w c a x 1 3 2 _ _ <| even w c a x 2 4 3 _ _ <| odd w c a x 3 5 4 _ _ <|
    even w c a x 4 6 5 _ _ <| odd w c a x 5 7 6 _ _ <| even w c a x 6 8 7 _ _ <| odd w c a x 7 9 8 _ _ <|
    even w c a x 8 10 9 _ _ <| odd w c a x 9 11 10 _ _ <| even w c a x 10 12 11 _ _ <| odd w c a x 11 13 12 _ _ <|
    even w c a x 12 14 13 _ _ <| odd w c a x 13 15 14 _ _ <|
    before c (chunkLast wW bufW yW cc0_scratch2 a x 0 14) (chunkLast wW bufW yW cc0_scratch2 a x 1 15) _ _ (flying w c 1 15) _ _
      (last_step w c a x 0 14) (by
        iintro ⟨H1, H0, HD⟩
        iapply (runs_end c (chunkLast wW bufW yW cc0_scratch2 a x 1 15) (fun _ => iprop(idle w c 1 ∗ during w c a x 16)))
        isplitl [H1 HD]
        · iapply (last_step w c a x 1 15)
          isplitl [H1]; · iexact H1
          iexact HD
        iintro %_ ⟨H1, HD⟩
        isplitl [H0]; · iexact H0
        isplitl [H1] <;> iassumption) (by
        unfold both
        iintro ⟨H0, H1, HD⟩
        isplitl [H1]; · iexact H1
        isplitl [H0]; · iexact H0
        iexact HD)
  refine BIBase.Entails.trans ?_ chain
  unfold both
  iintro ⟨⟨H0, HD⟩, H1⟩
  isplitl [H0]; · iexact H0
  isplitl [H1] <;> iassumption

end Cert.KernelIdeal.Plan

end
-- ==== Proof.OnKernelIdeal.Body.lean ====
/-
# The body of one device

The whole body at a symbolic device, from what the launch hands it to what it hands back: its result holds what each
device's product has for it.
-/
module

public import proofs.«01_k».proof.Proof.OnKernelIdeal.Product

@[expose] public section

noncomputable section

namespace Cert.KernelIdeal.Plan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The operands -/

abbrev xL (c : Dev nD) : Loc nD τ sig := (c : Thread nD τ).loc cc0_stg0_0
abbrev saL (c : Dev nD) : Loc nD τ sig := (c : Thread nD τ).loc cc0_stg1_0
abbrev sbL (c : Dev nD) : Loc nD τ sig := (c : Thread nD τ).loc cc0_stg2_0

/-- The one index of a scale. -/
def only : S1.Idx := fun a => ⟨0, by fin_cases a; exact Nat.one_pos⟩
theorem eq_only (i : S1.Idx) : i = only := funext fun a => by
  fin_cases a
  exact Fin.ext (by have h : (i 0).val < 1 := (i 0).isLt; show (i 0).val = 0; omega)

variable (xv : S128x4096.Idx → Elt F .fp8e4m3) (av bv : S1.Idx → Elt F .f32)

/-- The staged operands of device `c`. -/
def staged (c : Dev nD) : sProp 𝕄 :=
  iprop((xL c ↦{fullShare} xv) ∗ (saL c ↦{fullShare} av) ∗ (sbL c ↦{fullShare} bv))

theorem operands_run (c : Dev nD) :
    staged xv av bv c ⊢ runs c (operands xW aW bW) fun p =>
      iprop(⌜p = (k0_pay1 (av only) (bv only), k0_pay2 xv)⌝ ∗ staged xv av bv c) := by
  unfold operands runs staged smemLoad
  simp only [Prog.lift]
  iintro ⟨Hx, Ha, Hb⟩
  rw [wp_bind]
  iapply (wp_smemLoadElt 𝒱₀ (c : Thread nD τ) none Set.univ (m := aW) (S := Finset.univ) (q := fullShare) (f := av)
    (Finset.subset_univ _)) $$ [Ha]
  · iexact Ha
  iintro Ha
  rw [wp_ret]; imodintro
  rw [wp_bind]
  iapply (wp_smemLoadElt 𝒱₀ (c : Thread nD τ) none Set.univ (m := bW) (S := Finset.univ) (q := fullShare) (f := bv)
    (Finset.subset_univ _)) $$ [Hb]
  · iexact Hb
  iintro Hb
  rw [wp_ret]; imodintro
  rw [wp_bind]
  iapply (wp_load 𝒱₀ (c : Thread nD τ) none Set.univ (m := xW) (S := Finset.univ) (q := fullShare) (f := xv)
    (Finset.subset_univ _)) $$ [Hx]
  · iexact Hx
  iintro Hx
  rw [wp_ret]; imodintro
  rw [wp_ret]; imodintro
  isplitr
  · ipureintro
    refine Prod.ext ?_ ?_
    · refine congrArg₂ k0_pay1 ?_ ?_
      · exact (congrFun (Memref.read_access_unit_zero (Elt F) cc0_stg1_0 (funext fun a => by fin_cases a; rfl) inb_S1_S1_0 av) _).trans
          (congrArg av (eq_only _))
      · exact (congrFun (Memref.read_access_unit_zero (Elt F) cc0_stg2_0 (funext fun a => by fin_cases a; rfl) inb_S1_S1_0 bv) _).trans
          (congrArg bv (eq_only _))
    · exact congrArg k0_pay2 (Memref.readAt_unit_zero (Elt F) cc0_stg0_0 (funext fun a => by fin_cases a <;> rfl) _ xv)
  isplitl [Hx]; · iexact Hx
  isplitl [Ha] <;> iassumption

/-! ## The device's own tile -/

variable (Y : Products F)

/-- What storing the own tile leaves in the band it fills. -/
theorem kept (c : Dev nD) (fd : S4096x256.Idx → Elt F .f32) (i : S4096x256.Idx) (hi : i ∈ rows c) :
    (oW.view.slice (ownO c)).write (Elt F) fd ((yW.view.slice (ownY c)).read (Elt F) (Y c)) Finset.univ i = result Y c i := by
  rw [← ownO_set c] at hi
  obtain ⟨j, -, rfl⟩ := Finset.mem_map.mp hi
  rw [View.write_emb_of_mem _ _ (Finset.mem_univ j), View.read_apply]
  unfold result
  have h0 : ((oW.view.slice (ownO c)).emb j 0).val = 128 * c.val + (j 0).val := emb_ownO c j 0
  have h1 : ((oW.view.slice (ownO c)).emb j 1).val = (j 1).val := (emb_ownO c j 1).trans (Nat.zero_add _)
  have hj0 : (j 0).val < 128 := (j 0).isLt
  have hc : filler ((oW.view.slice (ownO c)).emb j) = c := Fin.ext (by show (_ : ℕ) / 128 = _; rw [h0]; omega)
  rw [hc]
  refine congrArg (Y c) (funext fun a => Fin.ext ((emb_ownY c j a).trans ?_))
  fin_cases a
  · show 0 + (j 0).val = ((oW.view.slice (ownO c)).emb j 0).val % 128
    rw [h0]; omega
  · show 256 * c.val + (j 1).val = 256 * c.val + ((oW.view.slice (ownO c)).emb j 1).val
    rw [h1]

/-- The own tile is kept. -/
theorem keepOwn_run (c : Dev nD) :
    iprop((yL c ↦{fullShare} Y c) ∗ ∃ f, oPts c c f)
      ⊢ runs c (keepOwn oW yW c) fun _ => iprop((yL c ↦{fullShare} Y c) ∗ oPts c c (result Y c)) := by
  unfold keepOwn runs oPts
  simp only [Prog.lift]
  iintro ⟨Hy, ⟨%f, Ho⟩⟩
  rw [wp_bind]
  iapply (wp_load 𝒱₀ (c : Thread nD τ) none Set.univ (m := yW) (S := Finset.univ) (q := fullShare) (f := Y c)
    (Finset.subset_univ _)) $$ [Hy]
  · iexact Hy
  iintro Hy
  rw [wp_ret]; imodintro
  rw [wp_bind]
  iapply (wp_load_rect 𝒱₀ (c : Thread nD τ) none Set.univ (m := oW) (r := ownO c) (S := rows c) (q := fullShare) (f := f)
    (ownO_set c).le) $$ [Ho]
  · iexact Ho
  iintro Ho
  rw [wp_ret]; imodintro
  iapply (wp_store 𝒱₀ (c : Thread nD τ) none Set.univ (m := oW) (r := ownO c) (S := rows c) (f := f)
    ((View.setOn_univ _).trans (ownO_set c)).le) $$ [Ho]
  · iexact Ho
  iintro Ho
  rw [wp_ret]; imodintro
  isplitl [Hy]; · iexact Hy
  have h : (oL c ↦[rows c]{fullShare} ((oW.view.slice (ownO c)).write (Elt F) f ((yW.view.slice (ownY c)).read (Elt F) (Y c)) Finset.univ) : sProp 𝕄)
      ⊢ oL c ↦[rows c]{fullShare} result Y c := Entails.of_eq (pointsTo_congr fun i hi => kept Y c f i hi)
  iapply h
  iexact Ho

/-! ## Bands put together -/

/-- A result is its 32 bands; a product is its 32 bands. -/
theorem whole_rows (c : Dev nD) (f : S4096x256.Idx → Elt F .f32) :
    (oL c ↦{fullShare} f : sProp 𝕄) = bigSep Finset.univ fun p => oPts c p f := by
  unfold oPts
  have h := pointsTo_biUnion (ℓ := oL c) (q := fullShare) (f := f) (Val := Elt F) (Ix := Unit) (Name := ℕ) (U := UU) (Lvl := ℕ)
    Finset.univ rows fun p _ q _ h => rows_disjoint p q h
  rw [rows_cover] at h
  exact h
theorem whole_cols (c : Dev nD) (f : S128x8192.Idx → Elt F .f32) :
    (yL c ↦{fullShare} f : sProp 𝕄) = bigSep Finset.univ fun p => yPts c p f := by
  unfold yPts
  have h := pointsTo_biUnion (ℓ := yL c) (q := fullShare) (f := f) (Val := Elt F) (Ix := Unit) (Name := ℕ) (U := UU) (Lvl := ℕ)
    Finset.univ cols fun p _ q _ h => cols_disjoint p q h
  rw [cols_cover] at h
  exact h

/-- Some contents of a band. -/
theorem some_band (c p : Dev nD) (f : S4096x256.Idx → Elt F .f32) : oPts c p f ⊢ iprop(∃ f, oPts (F := F) c p f) := by
  iintro H; iexists f; iexact H

/-- A result split into the own band and the peers', contents forgotten. -/
theorem split_rows (c : Dev nD) :
    iprop(∃ f, oL c ↦{fullShare} f) ⊢ iprop((∃ f, oPts (F := F) c c f) ∗ bigSep Finset.univ fun h => iprop(∃ f, oPts c (peer c h) f)) := by
  iintro ⟨%f, H⟩
  have hs : (oL c ↦{fullShare} f : sProp 𝕄) ⊢ iprop((∃ f, oPts (F := F) c c f) ∗ bigSep Finset.univ fun h => iprop(∃ f, oPts c (peer c h) f)) := by
    rw [whole_rows, bigSep_peer c]
    exact BIClass.sep_mono (some_band c c f) (bigSep_mono fun h _ => some_band c (peer c h) f)
  iapply hs; iexact H

/-- The buffer whole, and its two slots. -/
theorem split_slots (c : Dev nD) :
    (iprop(∃ f, bL c ↦{fullShare} f) : sProp 𝕄) ⊢ iprop((∃ f, bL c ↦[slot 0]{fullShare} f) ∗ (∃ f : S2x4096x512.Idx → Elt F .f32, bL c ↦[slot 1]{fullShare} f)) := by
  iintro ⟨%f, H⟩
  have h : (bL c ↦{fullShare} f : sProp 𝕄) ⊢ iprop((bL c ↦[slot 0]{fullShare} f) ∗ (bL c ↦[slot 1]{fullShare} f)) := by
    have hu : (bL c ↦[slot 0 ∪ slot 1]{fullShare} f : sProp 𝕄) ⊢ iprop((bL c ↦[slot 0]{fullShare} f) ∗ (bL c ↦[slot 1]{fullShare} f)) :=
      (pointsTo_union slot_disjoint).1
    rw [slot_cover] at hu
    exact hu
  ihave H := h $$ H
  icases H with ⟨H0, H1⟩
  isplitl [H0]
  · iexists f; iexact H0
  iexists f; iexact H1
theorem join_slots (c : Dev nD) :
    (iprop((∃ f, bL c ↦[slot 0]{fullShare} f) ∗ (∃ f : S2x4096x512.Idx → Elt F .f32, bL c ↦[slot 1]{fullShare} f)) : sProp 𝕄) ⊢ iprop(∃ f, bL c ↦{fullShare} f) := by
  iintro ⟨⟨%f, H0⟩, ⟨%g, H1⟩⟩
  have h : iprop((bL c ↦[slot 0]{fullShare} f) ∗ (bL c ↦[slot 1]{fullShare} g)) ⊢ (bL c ↦{fullShare} ((slot 0).piecewise f g) : sProp 𝕄) := by
    have hs : slot 1 = Finset.univ \ slot 0 := by
      rw [← slot_cover, Finset.union_sdiff_left, Finset.sdiff_eq_self_of_disjoint slot_disjoint.symm]
    rw [hs]
    exact pointsTo_join_subset (Finset.subset_univ _)
  iexists _
  iapply h
  isplitl [H0] <;> iassumption

/-! ## The whole body -/

variable (K : Dev nD × Own → ℕ) (w : S4096x8192.Idx → Elt F .f32)

/-- The duties device `c` pays, its places in the rounds of its own cells, and what it has been promised. -/
def duties (c : Dev nD) : sProp 𝕄 :=
  iprop((bigSep Finset.univ fun h => dutyTok ER (barCell (peer c h)) 0 c)
    ∗ (bigSep Finset.univ fun h => dutyTok ER (depCell c h) 0 c)
    ∗ (bigSep Finset.univ fun h => dutyTok ER (arrCell (peer c h) c) 0 c))
def places (c : Dev nD) : sProp 𝕄 :=
  iprop(atPos ER (barCell c) 0 ∅ 0 ∗ (bigSep Finset.univ fun h => atPos ER (depCell c h) 0 ∅ 0)
    ∗ (bigSep Finset.univ fun p => atPos ER (arrCell c p) 0 ∅ 0))
def promised (c : Dev nD) : sProp 𝕄 :=
  iprop(cred (tallyAt (barCell c) () 31) ∗ bigSep Finset.univ fun h => cred (tallyAt (arrCell c (src c h)) () N))

/-- The two semaphores of the local copies, and all others, at zero. -/
def copyZero (c : Dev nD) : sProp 𝕄 :=
  iprop(semVal ((c : Thread nD τ), SemLoc.dma (copySem 0)) 0 ∗ semVal ((c : Thread nD τ), SemLoc.dma (copySem 1)) 0)
def restZero (c : Dev nD) : sProp 𝕄 :=
  iprop((bigSep Finset.univ fun h => semVal (depCell c h) 0) ∗ (bigSep Finset.univ fun p => semVal (arrCell c p) 0))

/-- What a device holds before and after beside its result and its staged operands. -/
def scratch (c : Dev nD) : sProp 𝕄 :=
  iprop((wL c ↦{fullShare} w) ∗ (∃ f, bL c ↦{fullShare} f) ∗ (∃ f : S128x8192.Idx → Elt F .f32, yL c ↦{fullShare} f) ∗ copyZero c)

/-- The product begun and done. -/
theorem idle_intro (c : Dev nD) :
    scratch w c ⊢ iprop((∃ f : S128x8192.Idx → Elt F .f32, yL c ↦{fullShare} f) ∗ idle w c 0 ∗ idle w c 1) := by
  unfold scratch copyZero idle
  iintro ⟨Hw, Hb, Hy, Hz0, Hz1⟩
  ihave Hw := (pointsTo_share (PosShare.mem_left_op_right fullShare)).1 $$ Hw
  icases Hw with ⟨Hw0, Hw1⟩
  ihave Hb := (split_slots c) $$ Hb
  icases Hb with ⟨Hb0, Hb1⟩
  isplitl [Hy]; · iexact Hy
  isplitl [Hw0 Hb0 Hz0]
  · isplitl [Hw0]; · iexact Hw0
    isplitl [Hb0] <;> iassumption
  · isplitl [Hw1]; · iexact Hw1
    isplitl [Hb1] <;> iassumption
theorem idle_elim (c : Dev nD) :
    iprop((∃ f : S128x8192.Idx → Elt F .f32, yL c ↦{fullShare} f) ∗ idle w c 0 ∗ idle w c 1) ⊢ scratch w c := by
  unfold scratch copyZero idle
  iintro ⟨Hy, ⟨Hw0, Hb0, Hz0⟩, ⟨Hw1, Hb1, Hz1⟩⟩
  ihave Hw := (pointsTo_share (ℓ := wL c) (I := Finset.univ) (f := w) (PosShare.mem_left_op_right fullShare)).2 $$ [Hw0 Hw1]
  · isplitl [Hw0]; · iexact Hw0
    iexact Hw1
  ihave Hb := (join_slots c) $$ [Hb0 Hb1]
  · isplitl [Hb0] <;> iassumption
  isplitl [Hw]; · iexact Hw
  isplitl [Hb]; · iexact Hb
  isplitl [Hy]; · iexact Hy
  isplitl [Hz0] <;> iassumption

/-- With sixteen chunks done `y` is the product. -/
theorem yUpTo_all (c : Dev nD) (a : F .f32) (x : FVec F S128x4096 .bf16) :
    yUpTo w c a x 16 ⊢ (yL c ↦{fullShare} prodOf a x w : sProp 𝕄) := by
  unfold yUpTo
  iintro ⟨%f, %hf, H⟩
  have e : f = prodOf a x w := funext fun j => hf j (by have h : (j 1).val < 8192 := (j 1).isLt; omega)
  subst e
  iexact H

/-- The product of what is staged. -/
theorem product_run (c : Dev nD) (a : F .f32) (x : FVec F S128x4096 .bf16) :
    iprop(levAts levelled level ∗ scratch w c ∗ owing c (owedCopies c dist))
      ⊢ runs c (product wW bufW yW cc0_scratch2 a x) fun _ =>
        iprop((yL c ↦{fullShare} prodOf a x w) ∗ idle w c 0 ∗ idle w c 1 ∗ owing c (owedCopies c dist)) := by
  iintro ⟨#HL, HS, HO⟩
  ihave HS := (idle_intro w c) $$ HS
  icases HS with ⟨⟨%f, Hy⟩, H0, H1⟩
  iapply (runs_end c _ (fun _ => iprop(idle w c 0 ∗ idle w c 1 ∗ during w c a x 16)))
  isplitl [Hy H0 H1 HO]
  · iapply (product_runs w c a x)
    isplitl [H0]; · iexact H0
    isplitl [H1]; · iexact H1
    unfold during yUpTo
    isplitr; · iexact HL
    isplitl [Hy]
    · iexists f
      isplitr
      · ipureintro; intro j hj; exact absurd hj (by omega)
      iexact Hy
    iexact HO
  unfold during
  iintro %_ ⟨H0, H1, -, Hy, HO⟩
  ihave Hy := (yUpTo_all w c a x) $$ Hy
  isplitl [Hy]; · iexact Hy
  isplitl [H0]; · iexact H0
  isplitl [H1] <;> iassumption

/-- What the body of device `c` takes and gives back. -/
def pre (c : Dev nD) : sProp 𝕄 :=
  iprop((records Y K ∗ levAts levelled level) ∗ duties c ∗ places c ∗ promised c ∗ scratch w c ∗ owing c (owedAll c dist)
    ∗ staged xv av bv c ∗ ∃ f, oL c ↦{fullShare} f)
def post (c : Dev nD) : sProp 𝕄 :=
  iprop(semVal (barCell c) 0 ∗ restZero c ∗ scratch w c ∗ owing c 0 ∗ staged xv av bv c ∗ (oL c ↦{fullShare} result Y c))

/-- The sends, with what they read and write. -/
theorem sends_run (c : Dev nD) :
    iprop(records Y K ∗ ((bigSep Finset.univ fun h => yPts c (peer c h) (Y c)) ∗ (bigSep Finset.univ fun h => iprop(∃ f, oPts (F := F) (peer c h) c f))
        ∗ (bigSep Finset.univ fun h => dutyTok ER (depCell c h) 0 c) ∗ (bigSep Finset.univ fun h => dutyTok ER (arrCell (peer c h) c) 0 c))
      ∗ owing c (owedCopies c dist))
      ⊢ runs c (steps (fun h => sendStep oW yW cc0_scratch3 cc0_scratch4 c (peer c h) h) dist) fun _ =>
        iprop((bigSep Finset.univ fun h => cred (tallyAt (depCell c h) () N)) ∗ owing (F := F) c 0) := by
  have h := runs_dist c (fun h => sendStep oW yW cc0_scratch3 cc0_scratch4 c (peer c h) h) (records Y K) _ _
    (fun l => owing c (owedCopies c l)) fun h l => send_step Y K c h l
  rw [bigSep_sep', bigSep_sep', bigSep_sep'] at h
  exact h

/-- The waits for arrivals: all bands but the own one. -/
theorem recvs_run (c : Dev nD) :
    iprop(records Y K ∗ ((bigSep Finset.univ fun h => cred (tallyAt (arrCell c (src c h)) () N))
        ∗ (bigSep Finset.univ fun h => atPos ER (arrCell c (src c h)) 0 ∅ 0)) ∗ owing c 0)
      ⊢ runs c (steps (fun h => recvStep oW yW cc0_scratch4 c h) dist) fun _ =>
        iprop(((bigSep Finset.univ fun h => oPts c (src c h) (result Y c)) ∗ (bigSep Finset.univ fun h => semVal (arrCell c (src c h)) 0))
          ∗ owing (F := F) c 0) := by
  have h := runs_dist c (fun h => recvStep oW yW cc0_scratch4 c h) (records Y K) _ _ (fun _ => owing c 0) fun h _ => recv_step Y K c h
  rw [bigSep_sep', bigSep_sep'] at h
  exact h

/-- The waits for departures: the product's bands for the peers. -/
theorem sents_run (c : Dev nD) :
    iprop(records Y K ∗ ((bigSep Finset.univ fun h => cred (tallyAt (depCell c h) () N))
        ∗ (bigSep Finset.univ fun h => atPos ER (depCell c h) 0 ∅ 0)) ∗ owing c 0)
      ⊢ runs c (steps (fun h => sentStep oW yW cc0_scratch3 c h) dist) fun _ =>
        iprop(((bigSep Finset.univ fun h => yPts c (peer c h) (Y c)) ∗ (bigSep Finset.univ fun h => semVal (depCell c h) 0))
          ∗ owing (F := F) c 0) := by
  have h := runs_dist c (fun h => sentStep oW yW cc0_scratch3 c h) (records Y K) _ _ (fun _ => owing c 0) fun h _ => sent_step Y K c h
  rw [bigSep_sep', bigSep_sep'] at h
  exact h

/-- The signals. -/
theorem signals_run (c : Dev nD) :
    iprop(records Y K ∗ ((bigSep Finset.univ fun h => dutyTok ER (barCell (peer c h)) 0 c)
        ∗ (bigSep Finset.univ fun h => iprop(∃ f, oPts (F := F) c (peer c h) f))) ∗ owing c (owedAll c dist))
      ⊢ runs c (steps (fun h => signalStep (peer c h)) dist) fun _ => owing (F := F) c (owedCopies c dist) := by
  have h := runs_dist c (fun h => signalStep (peer c h)) (records Y K) _ _ (fun l => owing c (owedAll c l)) fun h l => signal_step Y K c h l
  rw [bigSep_sep', owedAll_nil] at h
  refine h.trans ?_
  have e := runs_end c (steps (fun h => signalStep (peer c h)) dist)
    (fun _ => iprop((bigSep Finset.univ fun _ : Fin 31 => (iprop(emp) : sProp 𝕄)) ∗ owing (F := F) c (owedCopies c dist))) (fun _ => owing (F := F) c (owedCopies c dist))
  iintro H
  iapply e
  isplitl [H]; · iexact H
  iintro %_ ⟨-, H⟩
  iexact H

/-- The own arrival semaphore, which nothing arrives at, is given back. -/
theorem close_self (c : Dev nD) :
    iprop(records Y K ∗ atPos ER (arrCell c c) 0 ∅ 0) ⊢ |={Set.univ}=> (semVal (arrCell c c) 0 : sProp 𝕄) := by
  iintro ⟨#HK, Hat⟩
  ihave #HI := (inv_at Y K c (.inr (.inr c))) $$ HK
  iapply (Rounds.cell_close ER (sched Y) (Set.mem_univ (K (c, .inr (.inr c)))) (fun h => h) (R := 0) (fun r _ => duties_self Y c r))
  isplitr; · iexact HI
  iexact Hat

/-- An update at the end. -/
theorem runs_update {α : Type} (c : Dev nD) (p : P F α) (Q : α → sProp 𝕄) :
    runs c p (fun a => iprop(|={Set.univ}=> Q a)) ⊢ runs c p Q := wp_fupd _ _ _ _ _

/-- THE BODY of device `c`. -/
theorem body_run (c : Dev nD) (hY : Y c = prodOf (k0_pay1 (av only) (bv only)) (k0_pay2 xv) w) :
    pre xv av bv Y K w c ⊢ runs c (plan xW wW aW bW oW bufW yW cc0_scratch2 cc0_scratch3 cc0_scratch4 sigDev sendDev)
      fun _ => post xv av bv Y w c := by
  have hsig (c : Dev nD) : (fun h => signalStep (F := F) (sigDev c h)) = fun h => signalStep (peer c h) :=
    funext fun h => by rw [sigDev_eq]
  have hsend (c : Dev nD) : (fun h => sendStep (F := F) oW yW cc0_scratch3 cc0_scratch4 c (sendDev c h) h)
      = fun h => sendStep oW yW cc0_scratch3 cc0_scratch4 c (peer c h) h := funext fun h => by rw [sendDev_eq]
  unfold plan
  simp only [hsig, hsend]
  unfold pre duties places promised
  iintro ⟨⟨#HK, #HL⟩, ⟨HtB, HtD, HtA⟩, ⟨HaB, HaD, HaA⟩, ⟨HcB, HcA⟩, HS, HO, Hst, Hout⟩
  ihave Hout := (split_rows c) $$ Hout
  icases Hout with ⟨Hown, Hothers⟩
  have hA : (bigSep Finset.univ fun p => (atPos ER (arrCell c p) 0 ∅ 0 : sProp 𝕄))
      ⊢ iprop(atPos ER (arrCell c c) 0 ∅ 0 ∗ bigSep Finset.univ fun h => atPos ER (arrCell c (src c h)) 0 ∅ 0) :=
    Entails.of_eq (bigSep_src c fun p => atPos ER (arrCell c p) 0 ∅ 0)
  ihave HaA := hA $$ HaA
  icases HaA with ⟨HaS, HaA⟩
  unfold runs
  rw [wp_bind]
  simp only [Prog.lift]
  rw [wp_deviceId 𝒱₀ (c : Thread nD τ) none Set.univ]
  rw [wp_ret]; imodintro
  -- the signals
  iapply (runs_then c (steps (fun h => signalStep (peer c h)) dist) _ (fun _ => owing (F := F) c (owedCopies c dist)))
  isplitl [HtB Hothers HO]
  · iapply (signals_run Y K c)
    isplitr; · iexact HK
    isplitl [HtB Hothers]
    · isplitl [HtB] <;> iassumption
    iexact HO
  iintro %_ HO
  -- the operands
  iapply (runs_then c (operands xW aW bW) _ (fun p => iprop(⌜p = (k0_pay1 (av only) (bv only), k0_pay2 xv)⌝ ∗ staged xv av bv c)))
  isplitl [Hst]
  · iapply (operands_run xv av bv c); iexact Hst
  iintro %p ⟨%hp, Hst⟩
  subst hp
  -- the product
  iapply (runs_then c (product wW bufW yW cc0_scratch2 _ _) _ (fun _ =>
    iprop((yL c ↦{fullShare} Y c) ∗ idle w c 0 ∗ idle w c 1 ∗ owing c (owedCopies c dist))))
  isplitl [HS HO]
  · rw [hY]
    iapply (product_run w c _ _)
    isplitr; · iexact HL
    isplitl [HS] <;> iassumption
  iintro %_ ⟨Hy, H0, H1, HO⟩
  -- the own tile
  iapply (runs_then c (keepOwn oW yW c) _ (fun _ => iprop((yL c ↦{fullShare} Y c) ∗ oPts c c (result Y c))))
  isplitl [Hy Hown]
  · iapply (keepOwn_run Y c)
    isplitl [Hy] <;> iassumption
  iintro %_ ⟨Hy, Hown⟩
  -- the barrier
  iapply (runs_then c (semWaitWord barS 31#32) _ (fun _ =>
    iprop((bigSep Finset.univ fun h : Fin 31 => iprop(∃ f, oPts (F := F) (peer c h) c f)) ∗ semVal (barCell c) 0
            ∗ owing c (owedCopies c dist))))
  isplitl [HcB HaB HO]
  · iapply (bar_step Y K c)
    isplitr; · iexact HK
    isplitr; · iexact HL
    isplitl [HcB]; · iexact HcB
    isplitl [HaB] <;> iassumption
  iintro %_ ⟨Hthere, HzB, HO⟩
  -- the sends
  have hy : (yL c ↦{fullShare} Y c : sProp 𝕄) ⊢ iprop(yPts c c (Y c) ∗ bigSep Finset.univ fun h => yPts c (peer c h) (Y c)) := by
    rw [whole_cols, bigSep_peer c]
  have hy' : iprop(yPts c c (Y c) ∗ bigSep Finset.univ fun h => yPts c (peer c h) (Y c)) ⊢ (yL c ↦{fullShare} Y c : sProp 𝕄) := by
    rw [whole_cols, bigSep_peer c]
  ihave Hy := hy $$ Hy
  icases Hy with ⟨Hyc, Hys⟩
  iapply (runs_then c (steps (fun h => sendStep oW yW cc0_scratch3 cc0_scratch4 c (peer c h) h) dist) _ (fun _ =>
    iprop((bigSep Finset.univ fun h => cred (tallyAt (depCell c h) () N)) ∗ owing (F := F) c 0)))
  isplitl [Hys Hthere HtD HtA HO]
  · iapply (sends_run Y K c)
    isplitr; · iexact HK
    isplitl [Hys Hthere HtD HtA]
    · isplitl [Hys]; · iexact Hys
      isplitl [Hthere]; · iexact Hthere
      isplitl [HtD] <;> iassumption
    iexact HO
  iintro %_ ⟨HcD, HO⟩
  -- the waits
  iapply (runs_then c (steps (fun h => recvStep oW yW cc0_scratch4 c h) dist) _ (fun _ =>
    iprop(((bigSep Finset.univ fun h => oPts c (src c h) (result Y c)) ∗ (bigSep Finset.univ fun h => semVal (arrCell c (src c h)) 0))
          ∗ owing (F := F) c 0)))
  isplitl [HcA HaA HO]
  · iapply (recvs_run Y K c)
    isplitr; · iexact HK
    isplitl [HcA HaA]
    · isplitl [HcA] <;> iassumption
    iexact HO
  iintro %_ ⟨⟨Ho, HzA⟩, HO⟩
  iapply (runs_update c)
  iapply (runs_end c (steps (fun h => sentStep oW yW cc0_scratch3 c h) dist) (fun _ =>
    iprop(((bigSep Finset.univ fun h => yPts c (peer c h) (Y c)) ∗ (bigSep Finset.univ fun h => semVal (depCell c h) 0))
          ∗ owing (F := F) c 0)))
  isplitl [HcD HaD HO]
  · iapply (sents_run Y K c)
    isplitr; · iexact HK
    isplitl [HcD HaD]
    · isplitl [HcD] <;> iassumption
    iexact HO
  iintro %_ ⟨⟨Hys, HzD⟩, HO⟩
  imod (close_self Y K c) $$ [HaS] with HzS
  · isplitr; · iexact HK
    iexact HaS
  imodintro
  have ho : iprop(oPts c c (result Y c) ∗ bigSep Finset.univ fun h => oPts c (src c h) (result Y c)) ⊢ (oL c ↦{fullShare} result Y c : sProp 𝕄) := by
    rw [whole_rows, bigSep_src c]
  have hz : iprop(semVal (arrCell c c) 0 ∗ bigSep Finset.univ fun h => semVal (arrCell c (src c h)) 0)
      ⊢ (bigSep Finset.univ fun p => semVal (arrCell c p) 0 : sProp 𝕄) :=
    Entails.of_eq (bigSep_src c fun p => semVal (arrCell c p) 0).symm
  unfold post restZero
  isplitl [HzB]; · iexact HzB
  isplitl [HzD HzS HzA]
  · isplitl [HzD]; · iexact HzD
    iapply hz
    isplitl [HzS] <;> iassumption
  isplitl [Hyc Hys H0 H1]
  · iapply (idle_elim w c)
    isplitl [Hyc Hys]
    · iexists (Y c)
      iapply hy'
      isplitl [Hyc] <;> iassumption
    isplitl [H0] <;> iassumption
  isplitl [HO]; · iexact HO
  isplitl [Hst]; · iexact Hst
  iapply ho
  isplitl [Hown] <;> iassumption

end Cert.KernelIdeal.Plan

end
-- ==== Proof.OnKernelIdeal.Deal.lean ====
/-
# What the launch deals

Every cell's round is opened and every duty named once, each duty in the hands of the device that pays it. The launch
gives the semaphores at zero; with them the cells become invariants, all but the two semaphores of the local copies.
What the devices owe at the start is, cell by cell, what the owner of the cell is promised.
-/
module

public import proofs.«01_k».proof.Proof.OnKernelIdeal.Body

@[expose] public section

noncomputable section

namespace Cert.KernelIdeal.Plan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The semaphores -/

/-- The names of a device's DMA semaphores outside staging: local copies, departures, arrivals. -/
abbrev Sems : Type := Fin 2 ⊕ (Fin 31 ⊕ Dev nD)
def dmaOf : Sems → DmaSem sig
  | .inl s => copySem s
  | .inr (.inl h) => dep h
  | .inr (.inr p) => arr p
def osem (x : Sems) : SemLoc sig := .dma (dmaOf x)

theorem dmaOf_val : ∀ x : Sems, (dmaOf x).val = match x with
    | .inl s => 4 + s.val
    | .inr (.inl h) => 6 + h.val
    | .inr (.inr p) => 37 + p.val
  | .inl s => copySem_val s
  | .inr (.inl _) => rfl
  | .inr (.inr _) => rfl

theorem dmaOf_inj : Function.Injective dmaOf := fun x y h => by
  have h := congrArg Fin.val h
  rw [dmaOf_val, dmaOf_val] at h
  rcases x with s | k | p <;> rcases y with s' | k' | p' <;> dsimp only at h
  · exact congrArg _ (Fin.ext (by omega))
  · have := s.isLt; omega
  · have := s.isLt; omega
  · have := s'.isLt; omega
  · exact congrArg _ (congrArg _ (Fin.ext (by omega)))
  · have := k.isLt; omega
  · have := s'.isLt; omega
  · have := k'.isLt; omega
  · exact congrArg _ (congrArg _ (Fin.ext (by omega)))

theorem ownSemFacts : Pipeline.OwnSemFacts cfg0.spec osem where
  isScoped := by decide
  inj := fun x y h => dmaOf_inj (SemLoc.dma.inj h)
  disj x w s h := by
    have h := congrArg Fin.val (SemLoc.dma.inj h)
    rw [dmaOf_val] at h
    have hw : ∀ (w : Fin 4) (s : Fin (spec0 w).nbuf), ((spec0 w).sem s).val < 4 := by decide
    have h4 : ((cfg0.spec w).sem s).val < 4 := hw w s
    rcases x with s | k | p <;> dsimp only at h <;> omega

theorem ownCell_inj : Function.Injective fun x : Dev nD × Own => ownCell x.1 x.2 := by
  rintro ⟨c, k⟩ ⟨c', k'⟩ h
  have hc : c = c' := by
    have := congrArg (fun g : GSem nD τ sig => g.1.1) h
    rcases k with u | k | p <;> rcases k' with u' | k' | p' <;> exact this
  subst hc
  have hs : (ownCell c k).2 = (ownCell c k').2 := congrArg Prod.snd h
  rcases k with u | k <;> rcases k' with u' | k'
  · rfl
  · rcases k' with k' | k' <;> exact nomatch hs
  · rcases k with k | k <;> exact nomatch hs
  · have e : dmaOf (.inr k) = dmaOf (.inr k') := by
      rcases k with k | k <;> rcases k' with k' | k' <;> exact SemLoc.dma.inj hs
    rw [Sum.inr.inj (dmaOf_inj e)]

/-- All cells. -/
def allCells : Finset (GSem nD τ sig) := Finset.univ.map ⟨_, ownCell_inj⟩

/-! ## The duties -/

/-- The duties of device `c`: a signal, a departure and an arrival for each distance. -/
abbrev Due : Type := Fin 31 ⊕ (Fin 31 ⊕ Fin 31)
def dueCell (c : Dev nD) : Due → GSem nD τ sig
  | .inl h => barCell (peer c h)
  | .inr (.inl h) => depCell c h
  | .inr (.inr h) => arrCell (peer c h) c

theorem due_inj : Function.Injective fun x : Dev nD × Due => ((dueCell x.1 x.2, 0, x.1) : GSem nD τ sig × ℕ × Dev nD) := by
  rintro ⟨c, k⟩ ⟨c', k'⟩ he
  have hc : c = c' := congrArg (fun x : GSem nD τ sig × ℕ × Dev nD => x.2.2) he
  subst hc
  have hg : dueCell c k = dueCell c k' := congrArg Prod.fst he
  have hd : (dueCell c k).1.1 = (dueCell c k').1.1 := congrArg (fun g : GSem nD τ sig => g.1.1) hg
  have hs : (dueCell c k).2 = (dueCell c k').2 := congrArg Prod.snd hg
  rcases k with h | h | h <;> rcases k' with h' | h' | h'
  · rw [peer_inj c hd]
  · exact nomatch hs
  · exact nomatch hs
  · exact nomatch hs
  · have e : (dep h).val = (dep h').val := congrArg Fin.val (SemLoc.dma.inj hs)
    rw [dep_val, dep_val] at e
    rw [show h = h' from Fin.ext (by omega)]
  · exact absurd hd.symm (peer_ne c h')
  · exact nomatch hs
  · exact absurd hd (peer_ne c h)
  · rw [peer_inj c hd]

/-- All duties. -/
def allDues : Finset (GSem nD τ sig × ℕ × Dev nD) := Finset.univ.map ⟨_, due_inj⟩

theorem duties_eq (c : Dev nD) :
    (bigSep Finset.univ fun k : Due => (dutyTok ER (dueCell c k) 0 c : sProp 𝕄)) = duties c := by
  rw [bigSep_univ_sum, bigSep_univ_sum]; rfl

variable (Y : Products F)

/-! ## Dealing them -/

/-- What device `c` is dealt before its semaphores. -/
def dealt (c : Dev nD) : sProp 𝕄 :=
  iprop((bigSep Finset.univ fun k => roundState ER (sched Y) (ownCell c k) 0)
    ∗ (bigSep Finset.univ fun k => reached ER (ownCell c k) 0) ∗ (bigSep Finset.univ fun k => atPos ER (ownCell c k) 0 ∅ 0)
    ∗ duties c)

theorem over_cells (Φ : GSem nD τ sig → sProp 𝕄) :
    bigSep allCells Φ = bigSep Finset.univ fun c : Dev nD => bigSep Finset.univ fun k : Own => Φ (ownCell c k) := by
  unfold allCells; rw [bigSep_map, bigSep_univ_prod]; rfl
theorem over_dues :
    bigSep allDues (fun x => (dutyTok ER x.1 x.2.1 x.2.2 : sProp 𝕄)) = bigSep Finset.univ duties := by
  unfold allDues; rw [bigSep_map, bigSep_univ_prod]
  exact bigSep_congr fun c _ => duties_eq c

theorem deal : BI.own (ER (initOf allCells allDues)) ⊢ (|==> bigSep Finset.univ (dealt Y) : sProp 𝕄) := by
  have h := Rounds.fund ER (sched Y) allCells allDues
  rw [over_cells, over_cells, over_cells, over_dues] at h
  unfold dealt
  simp only [bigSep_sep']
  exact h

/-! ## The cells become invariants -/

theorem bigSep_own (Φ : Own → sProp 𝕄) :
    bigSep Finset.univ Φ = iprop(Φ (.inl ()) ∗ (bigSep Finset.univ fun h => Φ (.inr (.inl h))) ∗ bigSep Finset.univ fun p => Φ (.inr (.inr p))) := by
  rw [bigSep_univ_sum, bigSep_univ_sum, Finset.univ_unique, bigSep_singleton]; rfl

theorem ownSems0_eq (c : Dev nD) :
    (Pipeline.ownSems0 (Ix := Unit) (Name := ℕ) (U := UU) (Lvl := ℕ) (Val := Elt F) (τ := τ) osem c : sProp 𝕄) = iprop(copyZero c ∗ restZero c) := by
  unfold Pipeline.ownSems0 copyZero restZero
  rw [bigSep_univ_sum, bigSep_univ_sum, bigSep_univ_eq_bigSepL [(0 : Fin 2), 1] (by decide) (by decide)]
  rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem places_eq (c : Dev nD) : (bigSep Finset.univ fun k : Own => (atPos ER (ownCell c k) 0 ∅ 0 : sProp 𝕄)) = places c := by
  rw [bigSep_own]; rfl

/-- What stays with device `c`. -/
def kept0 (c : Dev nD) : sProp 𝕄 := iprop(duties c ∗ places c ∗ copyZero c)

theorem open_cells (c : Dev nD) :
    iprop(Pipeline.ownSems0 (Ix := Unit) (Name := ℕ) (U := UU) (Lvl := ℕ) (Val := Elt F) (τ := τ) osem c ∗ unscopedSems0 c ∗ dealt Y c)
      ⊢ |={Set.univ}=> iprop((bigSep Finset.univ fun k => iprop(∃ κ : ℕ, cellInv ER (sched Y) κ (ownCell c k)))
          ∗ (bigSep Finset.univ fun k => reached ER (ownCell c k) 0) ∗ kept0 c) := by
  have hinv : iprop((bigSep Finset.univ fun k : Own => semVal (ownCell c k) 0) ∗ bigSep Finset.univ fun k : Own => roundState ER (sched Y) (ownCell c k) 0)
      ⊢ (|={Set.univ}=> bigSep Finset.univ fun k => iprop(∃ κ : ℕ, cellInv ER (sched Y) κ (ownCell c k)) : sProp 𝕄) := by
    rw [← bigSep_sep']
    exact (bigSep_mono fun k _ => (Rounds.body_intro ER (sched Y) (ownCell c k)).trans inv_alloc).trans (bigSep_fupd _ _)
  have hz : iprop(restZero c ∗ semVal (barCell c) 0) ⊢ (bigSep Finset.univ fun k : Own => semVal (ownCell c k) 0 : sProp 𝕄) := by
    rw [bigSep_own]; unfold restZero ownCell
    iintro ⟨⟨HD, HA⟩, HB⟩
    isplitl [HB]; · iexact HB
    isplitl [HD] <;> iassumption
  rw [ownSems0_eq, unscopedSems0_eq]
  unfold dealt kept0
  rw [places_eq]
  iintro ⟨⟨Hcopy, Hz⟩, HB, Hst, Hr, Hat, Htok⟩
  ihave Hz := hz $$ [Hz HB]
  · isplitl [Hz] <;> iassumption
  imod hinv $$ [Hz Hst] with HI
  · isplitl [Hz] <;> iassumption
  imodintro
  isplitl [HI]; · iexact HI
  isplitl [Hr]; · iexact Hr
  isplitl [Htok]; · iexact Htok
  isplitl [Hat] <;> iassumption

/-- What device `c` enters @main with of the protocol. -/
def ready (c : Dev nD) : sProp 𝕄 := iprop(∃ K, records Y K ∗ kept0 c)

theorem record_ready (K : Dev nD × Own → ℕ) (c : Dev nD) : iprop(records Y K ∗ kept0 c) ⊢ ready Y c := by
  unfold ready
  iintro H
  iexists K
  iexact H

theorem share_records :
    (bigSep Finset.univ fun c : Dev nD => iprop((bigSep Finset.univ fun k => iprop(∃ κ : ℕ, cellInv ER (sched Y) κ (ownCell c k)))
          ∗ (bigSep Finset.univ fun k => reached ER (ownCell c k) 0) ∗ kept0 c) : sProp 𝕄)
      ⊢ bigSep Finset.univ (ready Y) := by
  rw [bigSep_sep', bigSep_sep', ← bigSep_univ_prod (fun x : Dev nD × Own => iprop(∃ κ : ℕ, cellInv ER (sched Y) κ (ownCell x.1 x.2))),
    ← bigSep_univ_prod (fun x : Dev nD × Own => (reached ER (ownCell x.1 x.2) 0 : sProp 𝕄))]
  iintro ⟨HI, #HR, Hk⟩
  ihave HK := (BI.bigSep_exists_pi Finset.univ (fun (x : Dev nD × Own) (κ : ℕ) => (cellInv ER (sched Y) κ (ownCell x.1 x.2) : sProp 𝕄))) $$ HI
  icases HK with ⟨%K, #HI⟩
  have hall : iprop(records Y K ∗ bigSep Finset.univ (kept0 (F := F))) ⊢ (bigSep Finset.univ (ready Y) : sProp 𝕄) :=
    (BIClass.sep_mono (BI.bigSep_of_persistent Finset.univ (records Y K)) (BI.Entails.refl _)).trans (by
      rw [← bigSep_sep']
      exact bigSep_mono fun c _ => record_ready Y K c)
  iapply hall
  isplitr
  · unfold records; isplitl; · iexact HI
    iexact HR
  iexact Hk

/-- From the semaphores of all devices and what they are dealt to what they enter with. -/
theorem all_ready :
    (bigSep Finset.univ fun c => iprop(Pipeline.ownSems0 (Ix := Unit) (Name := ℕ) (U := UU) (Lvl := ℕ) (Val := Elt F) (τ := τ) osem c ∗ unscopedSems0 c ∗ dealt Y c) : sProp 𝕄)
      ⊢ |={Set.univ}=> bigSep Finset.univ (ready Y) :=
  ((bigSep_mono fun c _ => open_cells Y c).trans (bigSep_fupd _ _)).trans (BI.fupd_mono (share_records Y))

/-! ## What is promised -/

/-- What device `c` owes at the start. -/
def owed0 (c : Dev nD) : CellTallies nD τ sig Unit := owedAll c dist

theorem owed0_apply (d : Dev nD) (g : GSem nD τ sig) :
    owed0 d g () = (∑ h, copyTally d h g ()) + ∑ h, sigTally d h g () := by
  unfold owed0 owedAll owedCopies
  rw [Pi.add_apply, Finsupp.add_apply, owedOver_dist, owedOver_dist]

theorem bar_ne_arr (c d p : Dev nD) : barCell c ≠ arrCell d p := fun e => by
  have h : (SemLoc.reg barS : SemLoc sig) = .dma (arr p) := congrArg Prod.snd e
  exact nomatch h

theorem owed_bar (d c : Dev nD) : owed0 d (barCell c) () = ∑ h, if d = src c h then 1 else 0 := by
  rw [owed0_apply, Finset.sum_eq_zero, Nat.zero_add]
  · refine Finset.sum_congr rfl fun h _ => ?_
    unfold sigTally
    rw [tallyAt_apply]
    refine if_congr ⟨fun e => ?_, fun e => ?_⟩ rfl rfl
    · have := congrArg (fun g : GSem nD τ sig => g.1.1) e.1
      rw [show c = peer d h from this, src_peer]
    · rw [e, peer_src]; exact ⟨rfl, rfl⟩
  · intro h _
    unfold copyTally
    rw [tallyAt_ne_cell (bar_ne_arr _ _ _)]; rfl

theorem owed_arr (d c : Dev nD) (k : Fin 31) : owed0 d (arrCell c (src c k)) () = if d = src c k then N else 0 := by
  rw [owed0_apply, Finset.sum_eq_zero (f := fun h => sigTally d h (arrCell c (src c k)) ()), Nat.add_zero]
  · have hh (h : Fin 31) : copyTally d h (arrCell c (src c k)) () = if h = k then (if d = src c k then N else 0) else 0 := by
      unfold copyTally
      rw [tallyAt_apply, ← ite_and]
      refine if_congr ⟨fun e => ?_, fun e => ?_⟩ rfl rfl
      · have hc : c = peer d h := congrArg (fun g : GSem nD τ sig => g.1.1) e.1
        have hs : (arr (src c k)).val = (arr d).val := congrArg Fin.val (SemLoc.dma.inj (congrArg Prod.snd e.1))
        rw [arr_val, arr_val] at hs
        have hd : d = src c k := Fin.ext (by omega)
        refine ⟨src_inj c ?_, hd⟩
        rw [← hd, hc, src_peer]
      · obtain ⟨e, hd⟩ := e
        subst e
        rw [hd, peer_src]; exact ⟨rfl, rfl⟩
    rw [Finset.sum_congr rfl fun h _ => hh h, Finset.sum_ite_eq' Finset.univ k, if_pos (Finset.mem_univ _)]
  · intro h _
    unfold sigTally
    rw [tallyAt_ne_cell (bar_ne_arr _ _ _).symm]; rfl

theorem credit_bar (c : Dev nD) :
    tallyOn (barCell c) (launchCredit (Pipeline.owing owed0) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun h _ => (Finset.sum_ite_eq' Finset.univ (src c h) fun _ => 1).trans (if_pos (Finset.mem_univ _)),
    Finset.sum_const, Finset.card_univ, Fintype.card_fin, smul_eq_mul]
theorem credit_arr (c : Dev nD) (k : Fin 31) :
    tallyOn (arrCell c (src c k)) (launchCredit (Pipeline.owing owed0) 0 (arrCell c (src c k)))
      = (tallyAt (arrCell c (src c k)) () N : CellTallies nD τ sig Unit) := by
  unfold tallyAt; refine congrArg _ (Finsupp.ext fun u => ?_); cases u
  rw [Pipeline.launchCredit_owing, Finsupp.single_eq_same, Finset.sum_congr rfl fun d _ => owed_arr d c k,
    Finset.sum_ite_eq' Finset.univ (src c k) fun _ => N, if_pos (Finset.mem_univ _)]

/-- Where the promises of device `c` lie. -/
def promiseAt (c : Dev nD) : Unit ⊕ Fin 31 → SemLoc sig
  | .inl _ => .reg barS
  | .inr h => .dma (arr (src c h))
theorem promiseAt_inj (c : Dev nD) : Function.Injective (promiseAt c) := by
  rintro (_ | h) (_ | h') e
  · rfl
  · exact nomatch e
  · exact nomatch e
  · have e : (arr (src c h)).val = (arr (src c h')).val := congrArg Fin.val (SemLoc.dma.inj e)
    rw [arr_val, arr_val] at e
    rw [src_inj c (Fin.ext (by omega) : src c h = src c h')]

/-- The launch's credit holds the promises. -/
theorem launch_promised (c : Dev nD) : (Pipeline.launchCred owed0 c : sProp 𝕄) ⊢ promised c := by
  unfold Pipeline.launchCred
  refine BIBase.Entails.trans (bigSep_subset (Finset.subset_univ (Finset.univ.image (promiseAt c)))) (Entails.of_eq ?_)
  rw [bigSep_image_of_injOn (promiseAt_inj c).injOn, bigSep_univ_sum, Finset.univ_unique, bigSep_singleton]
  unfold promised
  rw [← credit_bar]
  refine congrArg _ (bigSep_congr fun h _ => ?_)
  rw [← credit_arr]; rfl

end Cert.KernelIdeal.Plan

end
-- ==== Proof.OnKernelIdeal.Run.lean ====
/-
# The run

@main of all devices, from any memory with every semaphore at zero: it ends, every device's result holds what the
devices' products have for it, the arguments are as they were, and every semaphore is at zero again.
-/
module

public import proofs.«01_k».proof.Proof.OnKernelIdeal.Printed
public import proofs.«01_k».proof.Proof.OnKernelIdeal.Deal
public import proofs.«01_k».proof.Proof.Gen.KernelIdeal.Points
public import Idealize.ShloMosaic.Lib.Pipeline.ValueKit
public import Idealize.ShloMosaic.Lib.Pipeline.CollectiveSegs
public import Idealize.ShloMosaic.Lib.Quiescent

@[expose] public section

noncomputable section

namespace Cert.KernelIdeal.Plan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## Contents -/

/-- The arguments of device `c`, as the body reads them. -/
def argX (c : Dev nD) : S128x4096.Idx → Elt F .fp8e4m3 := m ((c : Thread nD τ).loc main_arg0)
def argW (c : Dev nD) : S4096x8192.Idx → Elt F .f32 := m ((c : Thread nD τ).loc main_arg1)
def argA (c : Dev nD) : S1.Idx → Elt F .f32 := m ((c : Thread nD τ).loc main_arg2)
def argB (c : Dev nD) : S1.Idx → Elt F .f32 := m ((c : Thread nD τ).loc main_arg3)

/-- The devices' products. -/
def products : Products F := fun c => prodOf (k0_pay1 (argA m c only) (argB m c only)) (k0_pay2 (argX m c)) (argW m c)

/-! ## The proof data of the staging -/

/-- Before the body, beside what is staged and owed. -/
def entry (c : Dev nD) : sProp 𝕄 :=
  iprop(ready (products m) c ∗ levAts levelled level ∗ promised c ∗ (wL c ↦{fullShare} argW m c))
def before0 (c : Dev nD) : sProp 𝕄 :=
  iprop(entry m c ∗ (∃ f, bL c ↦{fullShare} f) ∗ (∃ f : S128x8192.Idx → Elt F .f32, yL c ↦{fullShare} f))
/-- After it. -/
def after0 (c : Dev nD) : sProp 𝕄 := iprop(semVal (barCell c) 0 ∗ restZero c ∗ scratch (argW m c) c)

/-- What the staging buffers hold after the body. -/
def left (c : Dev nD) (w : Fin cfg0.W) : (cfg0.win w).block.Idx → Elt F (cfg0.win w).elt :=
  match w with
  | ⟨0, _⟩ => argX m c
  | ⟨1, _⟩ => argA m c
  | ⟨2, _⟩ => argB m c
  | ⟨3, _⟩ => result (products m) c
  | ⟨_ + 4, h⟩ => absurd h (Nat.not_lt.2 (Nat.le_add_left _ _))

def dats (_ : Fin 1) (c : Dev nD) : Dat τ (Elt F) Unit ℕ UU ℕ cfg0 c where
  A w := m ((cfg0.win w).arr.view.loc (c : Thread nD τ))
  after w _ := left m c w
  Φ t := match t with
    | ⟨0, _⟩ => before0 m c
    | ⟨_ + 1, _⟩ => after0 m c
  q _ := fullShare
  owed t := match t with
    | ⟨0, _⟩ => owed0 c
    | ⟨_ + 1, _⟩ => 0

/-- A whole staging buffer. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staged input holds its argument. -/
theorem staged_x (c : Dev nD) (d) : (dats m 0 c).before (0 : Fin 4) t0_0 d = argX m c := by
  unfold Dat.before; rw [if_pos (fetch0_0 t0_0)]; funext j
  refine congrArg (m ((c : Thread nD τ).loc main_arg0)) (funext fun a => Fin.ext ?_)
  exact (ValueKit.view_emb_slice_whole_unit_val main_arg0 _ _ _ _ a).trans ((congrArg (· + _) (Nat.zero_mul _)).trans (Nat.zero_add _))
theorem staged_a (c : Dev nD) (d) : (dats m 0 c).before (1 : Fin 4) t0_0 d = argA m c := by
  unfold Dat.before; rw [if_pos (fetch0_1 t0_0)]; funext j
  refine congrArg (m ((c : Thread nD τ).loc main_arg2)) (funext fun a => Fin.ext ?_)
  exact (ValueKit.view_emb_slice_whole_unit_val main_arg2 _ _ _ _ a).trans ((congrArg (· + _) (Nat.zero_mul _)).trans (Nat.zero_add _))
theorem staged_b (c : Dev nD) (d) : (dats m 0 c).before (2 : Fin 4) t0_0 d = argB m c := by
  unfold Dat.before; rw [if_pos (fetch0_2 t0_0)]; funext j
  refine congrArg (m ((c : Thread nD τ).loc main_arg3)) (funext fun a => Fin.ext ?_)
  exact (ValueKit.view_emb_slice_whole_unit_val main_arg3 _ _ _ _ a).trans ((congrArg (· + _) (Nat.zero_mul _)).trans (Nat.zero_add _))

/-- The result is written back whole. -/
theorem result_back (c : Dev nD) : (dats m 0 c).arrAt (3 : Fin 4) cfg0.N = result (products m) c :=
  (dats m 0 c).arrAt_eq_of_after_last (3 : Fin 4) t0_0 (by decide +kernel) _ fun _ => rfl

/-! ## The body obligation -/

/-- A staging buffer, whole. -/
def stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def obligationPre (c : Dev nD) : sProp 𝕄 :=
  iprop(before0 m c ∗ (dats m 0 c).owesAt () t0_0.castSucc
    ∗ (∃ d, stg c cc0_stg0_0 ((dats m 0 c).before (0 : Fin cfg0.W) t0_0 d)) ∗ (∃ d, stg c cc0_stg1_0 ((dats m 0 c).before (1 : Fin cfg0.W) t0_0 d))
    ∗ (∃ d, stg c cc0_stg2_0 ((dats m 0 c).before (2 : Fin cfg0.W) t0_0 d)) ∗ (∃ d, stg c cc0_stg3_0 ((dats m 0 c).before (3 : Fin cfg0.W) t0_0 d)))
def obligationPost (c : Dev nD) : sProp 𝕄 :=
  iprop(after0 m c ∗ (dats m 0 c).owesAt () t0_0.succ ∗ stg c cc0_stg0_0 (argX m c) ∗ stg c cc0_stg1_0 (argA m c)
    ∗ stg c cc0_stg2_0 (argB m c) ∗ stg c cc0_stg3_0 (result (products m) c))

/-- What the body takes, put together. -/
theorem pre_intro (c : Dev nD) : obligationPre m c ⊢ iprop(∃ K, pre (argX m c) (argA m c) (argB m c) (products m) K (argW m c) c) := by
  unfold obligationPre before0 entry ready kept0 pre scratch owing staged stg Dat.owesAt Pipeline.owesWithin
  rw [show (dats m 0 c).owed t0_0.castSucc = owedAll c dist from rfl]
  iintro ⟨⟨⟨⟨%K, #HK, Ht, Ha, Hz⟩, #HL, Hp, Hw⟩, Hb, Hy⟩, ⟨%W, -, HO⟩, ⟨%d0, %f0, %h0, Hx⟩, ⟨%d1, %f1, %h1, Hsa⟩, ⟨%d2, %f2, %h2, Hsb⟩, ⟨%d3, %f3, -, Ho⟩⟩
  rw [staged_x] at h0; rw [staged_a] at h1; rw [staged_b] at h2
  subst h0; subst h1; subst h2
  iexists K
  isplitr
  · isplitr; · iexact HK
    iexact HL
  isplitl [Ht]; · iexact Ht
  isplitl [Ha]; · iexact Ha
  isplitl [Hp]; · iexact Hp
  isplitl [Hw Hb Hy Hz]
  · isplitl [Hw]; · iexact Hw
    isplitl [Hb]; · iexact Hb
    isplitl [Hy] <;> iassumption
  isplitl [HO]; · iexists W; iexact HO
  isplitl [Hx Hsa Hsb]
  · isplitl [Hx]; · iexact Hx
    isplitl [Hsa] <;> iassumption
  iexists f3; iexact Ho

/-- What the body gives back, taken apart. -/
theorem post_elim (c : Dev nD) : post (argX m c) (argA m c) (argB m c) (products m) (argW m c) c ⊢ obligationPost m c := by
  unfold post obligationPost after0 owing staged stg Dat.owesAt Pipeline.owesWithin
  rw [show (dats m 0 c).owed t0_0.succ = 0 from rfl]
  iintro ⟨HB, Hz, HS, ⟨%W, HO⟩, ⟨Hx, Ha, Hb⟩, Ho⟩
  isplitl [HB Hz HS]
  · isplitl [HB]; · iexact HB
    isplitl [Hz] <;> iassumption
  isplitl [HO]
  · iexists W
    isplitr; · ipureintro; exact fun _ _ => Or.inl trivial
    iexact HO
  isplitl [Hx]
  · iexists _; isplitr; · (ipureintro; rfl)
    iexact Hx
  isplitl [Ha]
  · iexists _; isplitr; · (ipureintro; rfl)
    iexact Ha
  isplitl [Hb]
  · iexists _; isplitr; · (ipureintro; rfl)
    iexact Hb
  iexists _; isplitr; · (ipureintro; rfl)
  iexact Ho

/-- The printed body, from the one to the other. -/
theorem printed_run (c : Dev nD) (hx hw ha hb ho hbuf hy) :
    obligationPre m c ⊢ runs c (cc0_body (F := F) xW hx wW hw aW ha bW hb oW ho bufW hbuf yW hy cc0_scratch2 cc0_scratch3 cc0_scratch4)
      fun _ => obligationPost m c := by
  rw [body_eq_plan]
  iintro H
  ihave H := (pre_intro m c) $$ H
  icases H with ⟨%K, H⟩
  iapply (runs_end c _ (fun _ => post (argX m c) (argA m c) (argB m c) (products m) (argW m c) c))
  isplitl [H]
  · iapply (body_run (argX m c) (argA m c) (argB m c) (products m) K (argW m c) c rfl)
    iexact H
  iintro %_ H
  iapply (post_elim m c)
  iexact H

set_option maxRecDepth 40000 in
theorem obligation (c : Dev nD) : BodyObligation (dats (F := F) m 0 c) (defs₀ (F := F)) 𝒱₀ () Set.univ := fun t => by
  rw [fin_N0 t]
  rw [bigSep_W0, bigSep_W0]
  simp only [owns_whole]
  rw [show defs₀ (F := F) .tc 0 (t0_0, cfg0.slots t0_0)
      = cc0_body xW (Memref.isWhole_whole _) wW (Memref.isWhole_whole _) aW (Memref.isWhole_whole _) bW (Memref.isWhole_whole _) oW (Memref.isWhole_whole _)
        bufW (Memref.isWhole_whole _) yW (Memref.isWhole_whole _) cc0_scratch2 cc0_scratch3 cc0_scratch4 from rfl]
  rw [show (dats m 0 c).Φ t0_0.castSucc = before0 m c from rfl, show (dats m 0 c).Φ t0_0.succ = after0 m c from rfl,
    show (dats m 0 c).after 0 t0_0 = argX m c from rfl, show (dats m 0 c).after 1 t0_0 = argA m c from rfl,
    show (dats m 0 c).after 2 t0_0 = argB m c from rfl, show (dats m 0 c).after 3 t0_0 = result (products m) c from rfl]
  have h := printed_run m c (Memref.isWhole_whole _) (Memref.isWhole_whole _) (Memref.isWhole_whole _) (Memref.isWhole_whole _)
    (Memref.isWhole_whole _) (Memref.isWhole_whole _) (Memref.isWhole_whole _)
  unfold obligationPre obligationPost stg at h
  exact h

/-! ## Into the launch and out of it -/

theorem share_eq (c : Dev nD) (w : Fin cfg0.W) : (dats m 0 c).share w = fullShare := by unfold Dat.share; split <;> rfl

/-- What the launch leaves a device, beside the staged buffers. -/
theorem entry_intro (c : Dev nD) :
    iprop(Pipeline.unscopedRestP (Pipeline.Prefetch.none) spec0 c (fun b => m ((c : Thread nD τ).loc b)) ∗ levAts levelled level
      ∗ Pipeline.launchCred owed0 c ∗ prngReg c (ρ c) ∗ ready (products m) c) ⊢ |={Set.univ}=> (iprop(entry m c ∗ emp) : sProp 𝕄) := by
  rw [Pipeline.unscopedRestP_none, unscopedRest0_eq]
  unfold entry
  iintro ⟨Hw, HL, Hcr, -, HR⟩
  imodintro
  isplitl; swap; · iempintro
  isplitl [HR]; · iexact HR
  isplitl [HL]; · iexact HL
  isplitl [Hcr]; · iapply (launch_promised c); iexact Hcr
  iexact Hw

theorem before_intro (c : Dev nD) :
    iprop(entry m c ∗ Pipeline.prefHeld (Pipeline.Prefetch.none) c (fun _ => fullShare.right) (fun k => k.elim0) ∗ Pipeline.scopedRest spec0 c)
      ⊢ (before0 m c : sProp 𝕄) := by
  rw [scopedRest0_eq]
  unfold before0
  iintro ⟨HE, -, Hb, Hy⟩
  isplitl [HE]; · iexact HE
  isplitl [Hb]; · iexact Hb
  iexact Hy

/-- What a device has after: its handshake semaphore at zero, and the matrix. -/
def remains (c : Dev nD) : sProp 𝕄 := iprop(unscopedSems0 c ∗ (wL c ↦{fullShare} argW m c))

theorem after_elim (c : Dev nD) :
    after0 m c ⊢ (iprop(remains m c ∗ Pipeline.ownSems0 osem c ∗ Pipeline.scopedRest spec0 c) : sProp 𝕄) := by
  rw [scopedRest0_eq, ownSems0_eq]
  unfold after0 remains scratch
  rw [unscopedSems0_eq]
  iintro ⟨HB, HR, Hw, Hb, Hy, HZ⟩
  isplitl [HB Hw]; · isplitl [HB] <;> iassumption
  isplitl [HZ HR]; · isplitl [HZ] <;> iassumption
  isplitl [Hb]; · iexact Hb
  iexact Hy

theorem waits (c : Dev nD) : (levAts levelled level : sProp 𝕄) ⊢ Pipeline.cellsWaits cfgs (dats m) () 0 c :=
  Pipeline.cellsWaits_intro cfgs (dats m) () 0 c fun w s t => by
    rcases t with ⟨_ | _, ht⟩
    · exact mayWait_stage c _ (by fin_cases w <;> fin_cases s <;> decide) dist
    · show _ ⊢ MayWait _ _ _ 0
      rw [MayWait_zero]; iintro -; iempintro

/-- What memory and semaphores hold at the end on device `c`, beside the staged arrays. -/
def Ends (c : Dev nD) (s : MemSt nD τ sig (Elt F)) : Prop :=
  s.mem ((c : Thread nD τ).loc main_arg1) = argW m c ∧ ∀ sm : SemLoc sig, sm.isScoped .tc = false → s.sem ((c.tc : Thread nD τ), sm) = 0

theorem ends_read (c : Dev nD) (s : Phys nD τ sig (Elt F)) :
    iprop(remains m c ∗ emp ∗ SI s) ⊢ |={Set.univ}=> (iprop(⌜Ends m c s.mem⌝ ∗ SI s) : sProp 𝕄) := by
  have hw : iprop(SI s ∗ (wL c ↦{fullShare} argW m c)) ⊢ (⌜∀ i ∈ Finset.univ, s.mem.mem (wL c) i = argW m c i⌝ : sProp 𝕄) := SI_pointsTo_agree
  unfold remains
  iintro ⟨⟨Hu, Hw⟩, -, HSI⟩
  ihave %h := hw $$ [HSI Hw]
  · isplitl [HSI] <;> iassumption
  imod (Pipeline.unscopedSems0_read (X := unscopedSems0 c) (c := c) fupd_intro s) $$ [Hu HSI] with H
  · isplitl [Hu] <;> iassumption
  icases H with ⟨%hs, HSI⟩
  imodintro
  isplitr
  · ipureintro; exact ⟨funext fun i => h i (Finset.mem_univ i), hs⟩
  iexact HSI

/-! ## The run -/

/-- The ghost state of the launch: the staging's cells and this protocol's. -/
def launched : UU :=
  (initOf (Pipeline.cells cfgs cellOf_inj) (Pipeline.launchToks cfgs cellOf_inj), (initOf allCells allDues, 1))

theorem launched_split (Y : Products F) :
    (ownU launched : sProp 𝕄) ⊢ |={Set.univ}=> iprop(BI.own (EP (initOf (Pipeline.cells cfgs cellOf_inj) (Pipeline.launchToks cfgs cellOf_inj)))
      ∗ bigSep Finset.univ (dealt Y)) := by
  unfold launched
  iintro Hu
  ihave H := (ownU_pair _ _) $$ Hu
  icases H with ⟨HP, HX⟩
  imod (deal Y) $$ [HX] with HG
  · iexact HX
  imodintro
  isplitl [HP] <;> iassumption

set_option maxRecDepth 100000 in
/-- From any memory with every semaphore at zero, @main ends: each device holds its part of every device's product, the
    arguments are as they were, and every semaphore is at zero. -/
theorem run : θ_run (defs (F := F)) (onTc (τ := τ) (main (F := F))) ⟨m, fun _ => 0, ρ⟩ fun r =>
    (∀ c : Dev nD, r.2.mem ((c : Thread nD τ).loc main_v1) = result (products m) c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0 :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl) (hbody := obligation m) (hne := fun w => by fin_cases w <;> exact Nat.succ_pos _)
    (harr := arr_whole0) (hstage := stage_whole0) (hshare := share_eq m) (hdistinct := winFacts0.arr_inj)
    (O₀ := owed0) (howed₀ := fun _ => rfl) (howedN := fun _ => rfl)
    (L := levelled) (lv := level) (hL := levelled_of_ne) (hwaits := waits m)
    (G := dealt (products m)) (G' := ready (products m)) (u₀ := launched) (hu₀ := launched_split (products m)) (hglob := all_ready (products m))
    (hA := fun _ _ => rfl) (hpf := fun _ k => k.elim0)
    (X := entry m) (Y := remains m) (Z := fun _ => iprop(emp))
    (hX := entry_intro m ρ) (hin := before_intro m) (hout := after_elim m)
    (QY := Ends m) (hY := ends_read m)
    (hQ := fun s h hs => ⟨fun c => ⟨((h c).1 (3 : Fin 4)).trans (result_back m c),
        ((h c).1 (0 : Fin 4)).trans ((dats m 0 c).arrAt_in (0 : Fin 4) rfl _), (h c).2.2.1,
        ((h c).1 (1 : Fin 4)).trans ((dats m 0 c).arrAt_in (1 : Fin 4) rfl _),
        ((h c).1 (2 : Fin 4)).trans ((dats m 0 c).arrAt_in (2 : Fin 4) rfl _)⟩,
      sem_eq_zero hs fun c => (h c).2.2.2⟩)

end Cert.KernelIdeal.Plan

end
-- ==== Proof.Whole.lean ====
/-
# The reference

What the one-device program of the whole problem leaves in its result: its body's printed term, at the arguments.
-/
module

public import proofs.«01_k».proof.Proof.Gen.ReferenceIdeal.Value
public import Idealize.ShloMosaic.Lib.Pipeline.ValueKit

@[expose] public section

noncomputable section

namespace Cert.ReferenceIdeal.Whole

open Cert.ReferenceIdeal Cert.ReferenceIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The one index of a scale. -/
def only : S1.Idx := fun a => ⟨0, by fin_cases a; exact Nat.one_pos⟩
theorem eq_only (i : S1.Idx) : i = only := funext fun a => by
  fin_cases a
  exact Fin.ext (Nat.lt_one_iff.mp (i 0).isLt)

/-- What one run of the body leaves in the result's buffer. -/
theorem body_leaves (c : Dev nD) (xM : Memref sig .tc .vmem S4096x4096 .fp8e4m3) (hx : xM.IsWhole) (wM : Memref sig .tc .vmem S4096x8192 .f32)
    (hw : wM.IsWhole) (aM : Memref sig .tc .smem S1 .f32) (ha : aM.IsWhole) (bM : Memref sig .tc .smem S1 .f32) (hb : bM.IsWhole)
    (oM : Memref sig .tc .vmem S4096x8192 .f32) (ho : oM.IsWhole) (x w a b) :
    out0_A_4 (F := F) c xM hx wM hw aM ha bM hb oM ho x w a b = k0_pay1 x w (a only) (b only) := by
  unfold out0_A_4
  rw [View.read_writes_eq_canon _ _ _ (cover0_A_4 c xM hx wM hw aM ha bM hb oM ho x w a b)]
  unfold kernelRun0_A
  dsimp only
  sl_unfold_words
  rw [View.canon_cons_unit_lit (S := S4096x8192) _ _ _ (by decide)]
  simp only [View.readAt_eq_ld, hx.read_unread, hw.read_unread, ha.read_unread, hb.read_unread]
  rw [View.ld_unit_lit (S := S4096x4096) _ _ (by decide), View.ld_unit_lit (S := S4096x8192) _ _ (by decide),
    View.ld_unit_lit (S := S1) _ _ (by decide), View.ld_unit_lit (S := S1) _ _ (by decide)]
  exact congrArg₂ (k0_pay1 x w) (congrArg a (eq_only _)) (congrArg b (eq_only _))

/-! ## Staged arguments -/

theorem staged_x (c : Dev nD) : iblk m c (0 : Fin 5) t0_0 = m ((c : Thread nD τ).loc main_arg0) := by
  funext j
  refine congrArg (m ((c : Thread nD τ).loc main_arg0)) (funext fun a => Fin.ext ?_)
  exact (ValueKit.view_emb_slice_whole_unit_val main_arg0 _ _ _ _ a).trans ((congrArg (· + _) (Nat.zero_mul _)).trans (Nat.zero_add _))
theorem staged_w (c : Dev nD) : iblk m c (1 : Fin 5) t0_0 = m ((c : Thread nD τ).loc main_arg1) := by
  funext j
  refine congrArg (m ((c : Thread nD τ).loc main_arg1)) (funext fun a => Fin.ext ?_)
  exact (ValueKit.view_emb_slice_whole_unit_val main_arg1 _ _ _ _ a).trans ((congrArg (· + _) (Nat.zero_mul _)).trans (Nat.zero_add _))
theorem staged_a (c : Dev nD) : iblk m c (2 : Fin 5) t0_0 = m ((c : Thread nD τ).loc main_arg2) := by
  funext j
  refine congrArg (m ((c : Thread nD τ).loc main_arg2)) (funext fun a => Fin.ext ?_)
  exact (ValueKit.view_emb_slice_whole_unit_val main_arg2 _ _ _ _ a).trans ((congrArg (· + _) (Nat.zero_mul _)).trans (Nat.zero_add _))
theorem staged_b (c : Dev nD) : iblk m c (3 : Fin 5) t0_0 = m ((c : Thread nD τ).loc main_arg3) := by
  funext j
  refine congrArg (m ((c : Thread nD τ).loc main_arg3)) (funext fun a => Fin.ext ?_)
  exact (ValueKit.view_emb_slice_whole_unit_val main_arg3 _ _ _ _ a).trans ((congrArg (· + _) (Nat.zero_mul _)).trans (Nat.zero_add _))

/-! ## The result -/

/-- The result of the whole problem. -/
def answer (c : Dev nD) : FVec F S4096x8192 .f32 :=
  k0_pay1 (m ((c : Thread nD τ).loc main_arg0)) (m ((c : Thread nD τ).loc main_arg1))
    (m ((c : Thread nD τ).loc main_arg2) only) (m ((c : Thread nD τ).loc main_arg3) only)

theorem outs_answer (c : Dev nD) : outsAt0 m c t0_0 = answer m c := by
  unfold outsAt0 answer
  rw [body_leaves, staged_x, staged_w, staged_a, staged_b]

theorem result_back (c : Dev nD) : (dats m 0 c).arrAt (4 : Fin 5) cfg0.N = answer m c :=
  (dats m 0 c).arrAt_eq_of_after_last (4 : Fin 5) t0_0 (by decide +kernel) _ fun j => by
    rw [after0_4, outs_answer]; rfl

/-- The reference's run. -/
theorem run : θ_run (defs (F := F)) (onTc (τ := τ) (main (F := F))) ⟨m, fun _ => 0, ρ⟩ fun r => ∀ c : Dev nD,
    r.2.mem ((c : Thread nD τ).loc main_v0) = answer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (result_back m c), (h c).2⟩) (Cert.ReferenceIdeal.Value.run_blocks m ρ)

end Cert.ReferenceIdeal.Whole

end
-- ==== Proof.Equal.lean ====
/-
# The values agree

Over the reals an element of a device's product is the activation of a scaled sum of products, and so is an element of
the whole problem's result. Casts are the identity there, and the sums run over the same operands.
-/
module

public import proofs.«01_k».proof.Proof.OnKernelIdeal.Product
public import proofs.«01_k».proof.Proof.Whole
public import Idealize.ShloMosaic.Lib.MatmulPlain
public import Idealize.ShloMosaic.Lib.Layout

@[expose] public section

noncomputable section

namespace Cert.Equal

open Idealize.ShloMosaic Idealize.ShloMosaic.TcCoe
open scoped BigOperators

/-- The activation of a scaled sum. -/
def swish (y : Ideal .f32) : Ideal .f32 :=
  FloatOps.divf y (FloatOps.addf (FloatOps.ofBits .f32 0x3F800000#32) (FloatOps.exp (FloatOps.subf (FloatOps.ofBits .f32 0x00000000#32)
    (FloatOps.minimumf (FloatOps.ofBits .f32 0x42700000#32) (FloatOps.maximumf (FloatOps.ofBits .f32 0xC2700000#32) y)))))

/-- A scaled sum of `n` products. -/
def scaled (l r : Fin 4096 → EReal) (s : EReal) : EReal := (∑ k, l k * r k) * s

section Kernel
open Cert.KernelIdeal Cert.KernelIdeal.Gen Cert.KernelIdeal.Plan

/-- An element of one chunk of a device's product. -/
theorem pay_apply (a : Ideal .f32) (x : FVec Ideal S128x4096 .bf16) (v : Vec Ideal S1x4096x512 .f32) (r : Fin 128) (l : Fin 512) :
    k0_pay3 a x v (ValueIdx.ix2 r l) = swish (scaled (fun k => x (ValueIdx.ix2 r k)) (fun k => v (ValueIdx.ix3 0 k l)) a) := by
  have hm : FloatOps.matmul dot_S128x4096_S4096x512_S128x512_1_0_0_1_n_n none x
      (truncf .bf16 (shapeCast S4096x512 v shapeCasts_S1x4096x512_S4096x512 : FVec Ideal S4096x512 .f32) bitsLt_bf16_f32)
      (constant S128x512 .f32 0x00000000#32) (ValueIdx.ix2 r l) = ∑ k : Fin 4096, (x (ValueIdx.ix2 r k) : EReal) * v (ValueIdx.ix3 0 k l) := by
    refine (Ideal.matmul_plain_apply none _ _ _ r l).trans ?_
    show Ideal.ofBits .f32 0x00000000#32 + _ = _
    rw [Ideal.ofBits_zero_f32, zero_add]
    refine Finset.sum_congr rfl fun k _ => congrArg (x (ValueIdx.ix2 r k) * ·) ?_
    refine (shapeCast_dropUnit_apply ![4096, 512] v _ (ValueIdx.ix2 k l)).trans (congrArg v ?_)
    funext d; fin_cases d <;> rfl
  unfold k0_pay3
  rw [shapeCast_self]
  exact congrArg (fun t : EReal => swish (t * a)) hm

end Kernel

section Reference
open Cert.ReferenceIdeal Cert.ReferenceIdeal.Gen

/-- An element of the whole result. -/
theorem whole_apply (x : FVec Ideal S4096x4096 .fp8e4m3) (w : FVec Ideal S4096x8192 .f32) (a b : Ideal .f32) (r : Fin 4096) (l : Fin 8192) :
    k0_pay1 x w a b (ValueIdx.ix2 r l) = swish (scaled (fun k => x (ValueIdx.ix2 r k)) (fun k => w (ValueIdx.ix2 k l)) (Scalar.mulf a b)) := by
  have hm : FloatOps.matmul (F := Ideal) dot_S4096x4096_S4096x8192_S4096x8192_1_0_0_1_n_n none (extf .f32 x bitsLt_fp8e4m3_f32)
      w (constant S4096x8192 .f32 0x00000000#32) (ValueIdx.ix2 r l) = ∑ k : Fin 4096, (x (ValueIdx.ix2 r k) : EReal) * w (ValueIdx.ix2 k l) := by
    refine (Ideal.matmul_plain_apply none _ _ _ r l).trans ?_
    show Ideal.ofBits .f32 0x00000000#32 + _ = _
    rw [Ideal.ofBits_zero_f32, zero_add]
    rfl
  unfold k0_pay1
  exact congrArg (fun t : EReal => swish (t * Scalar.mulf (F := Ideal) (φ := .f32) a b)) hm

end Reference

/-! ## Device by device -/

open Cert.KernelIdeal.Plan in
/-- Device `c`'s result is its band of columns of the whole result, when the devices hold the bands of rows of the left
    operand and the same right operand and scales. -/
theorem result_eq (x : FVec Ideal Cert.ReferenceIdeal.S4096x4096 .fp8e4m3) (w : FVec Ideal Cert.ReferenceIdeal.S4096x8192 .f32) (a b : Ideal .f32)
    (Y : Products Ideal)
    (hY : ∀ p, Y p = prodOf (Cert.KernelIdeal.Gen.k0_pay1 a b)
      (Cert.KernelIdeal.Gen.k0_pay2 (Layout.block ⟨2, ![128, 4096]⟩ ⟨2, ![4096, 4096]⟩ 0 32 p x)) w) (c : Fin 32) :
    result Y c = Layout.block ⟨2, ![4096, 256]⟩ ⟨2, ![4096, 8192]⟩ 1 32 c (Cert.ReferenceIdeal.Gen.k0_pay1 (F := Ideal) x w a b) := by
  funext i
  have h0 : (i 0).val < 4096 := (i 0).isLt
  have h1 : (i 1).val < 256 := (i 1).isLt
  have hc := c.isLt
  have ht : Layout.Tiles ⟨2, ![4096, 256]⟩ ⟨2, ![4096, 8192]⟩ 1 32 := by decide
  have hR : ht.idx c i = ValueIdx.ix2 ⟨(i 0).val, h0⟩ ⟨256 * c.val + (i 1).val, by omega⟩ := by
    funext d
    match d with
    | ⟨0, _⟩ => exact Fin.ext (Layout.idx_cols_val ht c i).1
    | ⟨1, _⟩ => exact Fin.ext ((Layout.idx_cols_val ht c i).2.trans (congrArg (· + _) (Nat.mul_comm _ _)))
  rw [Layout.block_apply, hR, whole_apply]
  unfold result
  rw [hY]
  refine (pay_apply _ _ _ _ _).trans ?_
  refine congrArg swish (congrArg₂ (fun l r => scaled l r _) (funext fun k => ?_) (funext fun k => ?_))
  · unfold Cert.KernelIdeal.Gen.k0_pay2
    rw [shapeCast_self]
    show Layout.block _ _ _ _ _ x _ _ = _
    rw [Layout.block_apply]
    have hs : Layout.Tiles ⟨2, ![128, 4096]⟩ ⟨2, ![4096, 4096]⟩ 0 32 := by decide
    refine congrArg x (funext fun d => ?_)
    match d with
    | ⟨0, _⟩ =>
      refine Fin.ext ((Layout.idx_rows_val hs (filler i) _).1.trans ?_)
      show (i 0).val / 128 * 128 + (i 0).val % 128 = (i 0).val
      omega
    | ⟨1, _⟩ => exact Fin.ext (Layout.idx_rows_val hs (filler i) _).2
  · unfold chunk
    refine congrArg w (funext fun d => ?_)
    match d with
    | ⟨0, _⟩ => rfl
    | ⟨1, _⟩ =>
      refine Fin.ext ?_
      show 512 * ((256 * c.val + (i 1).val) / 512) + (256 * c.val + (i 1).val) % 512 = 256 * c.val + (i 1).val
      omega

end Cert.Equal

end
-- ==== Proof.lean ====
/-
The proof of `Cert.Claim` (proofs.«01_k».proof.Defs): the runs of the three programs, and the equation between the
kernel's result and the reference's.
-/
module

public import proofs.«01_k».proof.Defs
public import proofs.«01_k».proof.Proof.OnKernel.Run
public import proofs.«01_k».proof.Proof.OnKernelIdeal.Run
public import proofs.«01_k».proof.Proof.Equal
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem Cert.Kernel

/-- The kernel's value over the reals is the reference's. -/
theorem values : Cert.algebraic_KernelIdeal_ReferenceIdeal := fun m g m' g' _ h =>
  ⟨Cert.ReferenceIdeal.Whole.answer m' 0,
    (θ_run _ _ _).mono (fun r hr c => ⟨(hr.1 c).1.trans (Cert.Equal.result_eq _ _ _ _ _ (fun p => by
        unfold Cert.KernelIdeal.Plan.products Cert.KernelIdeal.Plan.argX Cert.KernelIdeal.Plan.argW
          Cert.KernelIdeal.Plan.argA Cert.KernelIdeal.Plan.argB
        rw [(h p).1, (h p).2.1, (h p).2.2.1, (h p).2.2.2]
        rfl) c), (hr.1 c).2⟩) (Cert.KernelIdeal.Plan.run m g),
    (θ_run _ _ _).mono (fun _ hr => hr 0) (Cert.ReferenceIdeal.Whole.run m' g')⟩

theorem claim : Cert.Claim := ⟨Cert.Kernel.Gen.facts, Cert.KernelIdeal.Gen.facts, Cert.ReferenceIdeal.Gen.facts,
  fun m g _ => (θ_run _ _ _).mono (fun _ h => ⟨fun c => (h.1 c).2, h.2⟩) (Cert.Kernel.Plan.run m g),
  fun m g _ => (θ_run _ _ _).mono (fun _ h => ⟨fun c => (h.1 c).2, h.2⟩) (Cert.KernelIdeal.Plan.run m g),
  fun m g _ => Cert.ReferenceIdeal.Gen.frame m g,
  trivial,
  values⟩

end Cert.Proof

end
